-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_TwoBestIdeal (m : (ℓ : Loc Cert.TwoBestIdeal.nD Cert.TwoBestIdeal.τ Cert.TwoBestIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_TwoBestIdeal [hTwoBestIdeal : Cert.TwoBestIdeal.Facts] : Prop :=
  ∀ (m : (ℓ : Loc Cert.TwoBestIdeal.nD Cert.TwoBestIdeal.τ Cert.TwoBestIdeal.sig) → Buf (Elt Ideal) ℓ) (g : Dev Cert.TwoBestIdeal.nD → PrngReg), Pre_TwoBestIdeal m →
    θ_run (Cert.TwoBestIdeal.defs (F := Ideal)) (onTc (τ := Cert.TwoBestIdeal.τ) (Cert.TwoBestIdeal.main (F := Ideal))) ⟨m, fun _ => 0, g⟩ (fun r => (∀ c : Dev Cert.TwoBestIdeal.nD,
      r.2.mem ((c.tc : Thread Cert.TwoBestIdeal.nD Cert.TwoBestIdeal.τ).loc Cert.TwoBestIdeal.main_arg0) = m ((c.tc : Thread Cert.TwoBestIdeal.nD Cert.TwoBestIdeal.τ).loc Cert.TwoBestIdeal.main_arg0)
      ∧ r.2.mem ((c.tc : Thread Cert.TwoBestIdeal.nD Cert.TwoBestIdeal.τ).loc Cert.TwoBestIdeal.main_arg1) = m ((c.tc : Thread Cert.TwoBestIdeal.nD Cert.TwoBestIdeal.τ).loc Cert.TwoBestIdeal.main_arg1)
      ∧ r.2.mem ((c.tc : Thread Cert.TwoBestIdeal.nD Cert.TwoBestIdeal.τ).loc Cert.TwoBestIdeal.main_arg2) = m ((c.tc : Thread Cert.TwoBestIdeal.nD Cert.TwoBestIdeal.τ).loc Cert.TwoBestIdeal.main_arg2)
      ∧ r.2.mem ((c.tc : Thread Cert.TwoBestIdeal.nD Cert.TwoBestIdeal.τ).loc Cert.TwoBestIdeal.main_arg3) = m ((c.tc : Thread Cert.TwoBestIdeal.nD Cert.TwoBestIdeal.τ).loc Cert.TwoBestIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 512]⟩ ⟨2, ![512, 512]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v66) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_TwoBestIdeal_on_two_lead [hKernelIdeal : Cert.KernelIdeal.Facts] [hTwoBestIdeal : Cert.TwoBestIdeal.Facts] [hOn_two_lead : Cert.On_two_lead.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TwoBestIdeal.nD Cert.TwoBestIdeal.τ Cert.TwoBestIdeal.sig) → Buf (Elt Ideal) ℓ) (g' : Dev Cert.TwoBestIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 2] ![[1], []] c) (m' (((0 : Dev Cert.TwoBestIdeal.nD).tc : Thread Cert.TwoBestIdeal.nD Cert.TwoBestIdeal.τ).loc Cert.TwoBestIdeal.main_arg0))
      ∧ m ((c.tc : Thread Cert.KernelIdeal.nD Cert.KernelIdeal.τ).loc Cert.KernelIdeal.main_arg1) = Layout.blockN ⟨2, ![512, 2]⟩ ⟨2, ![512, 4]⟩ (Layout.meshBlock [2, 2, 2] ![[], [1]] c) (m' (((0 : Dev Cert.TwoBestIdeal.nD).tc : Thread Cert.TwoBestIdeal.nD Cert.TwoBestIdeal.τ).loc Cert.TwoBestIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 2, 2] ![[1], [], []] c) (m' (((0 : Dev Cert.TwoBestIdeal.nD).tc : Thread Cert.TwoBestIdeal.nD Cert.TwoBestIdeal.τ).loc Cert.TwoBestIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 2, 2] ![[1], [], []] c) (m' (((0 : Dev Cert.TwoBestIdeal.nD).tc : Thread Cert.TwoBestIdeal.nD Cert.TwoBestIdeal.τ).loc Cert.TwoBestIdeal.main_arg3))) →
    ∃ (v0 : Buf (Elt Ideal) (((0 : Dev Cert.TwoBestIdeal.nD).tc : Thread Cert.TwoBestIdeal.nD Cert.TwoBestIdeal.τ).loc Cert.TwoBestIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 512]⟩ : Shape).Idx, (Layout.blockN ⟨2, ![256, 512]⟩ ⟨2, ![512, 512]⟩ (Layout.meshBlock [2, 2, 2] ![[1], []] c) ((Cert.On_two_lead.fn (F := Ideal) (m' (((0 : Dev Cert.TwoBestIdeal.nD).tc : Thread Cert.TwoBestIdeal.nD Cert.TwoBestIdeal.τ).loc Cert.TwoBestIdeal.main_arg0)) (m' (((0 : Dev Cert.TwoBestIdeal.nD).tc : Thread Cert.TwoBestIdeal.nD Cert.TwoBestIdeal.τ).loc Cert.TwoBestIdeal.main_arg1)) (m' (((0 : Dev Cert.TwoBestIdeal.nD).tc : Thread Cert.TwoBestIdeal.nD Cert.TwoBestIdeal.τ).loc Cert.TwoBestIdeal.main_arg2)) (m' (((0 : Dev Cert.TwoBestIdeal.nD).tc : Thread Cert.TwoBestIdeal.nD Cert.TwoBestIdeal.τ).loc Cert.TwoBestIdeal.main_arg3)))) : (⟨2, ![256, 512]⟩ : Shape).Idx → _) i = 1#1 → r.2.mem ((c.tc : Thread Cert.KernelIdeal.nD Cert.KernelIdeal.τ).loc Cert.KernelIdeal.main_v1) i = (Layout.blockN ⟨2, ![256, 512]⟩ ⟨2, ![512, 512]⟩ (Layout.meshBlock [2, 2, 2] ![[1], []] c) v0 : (⟨2, ![256, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.TwoBestIdeal.defs (F := Ideal)) (onTc (τ := Cert.TwoBestIdeal.τ) (Cert.TwoBestIdeal.main (F := Ideal))) ⟨m', fun _ => 0, g'⟩ (fun r =>
          (∀ i : (⟨2, ![512, 512]⟩ : Shape).Idx, (Cert.On_two_lead.fn (F := Ideal) (m' (((0 : Dev Cert.TwoBestIdeal.nD).tc : Thread Cert.TwoBestIdeal.nD Cert.TwoBestIdeal.τ).loc Cert.TwoBestIdeal.main_arg0)) (m' (((0 : Dev Cert.TwoBestIdeal.nD).tc : Thread Cert.TwoBestIdeal.nD Cert.TwoBestIdeal.τ).loc Cert.TwoBestIdeal.main_arg1)) (m' (((0 : Dev Cert.TwoBestIdeal.nD).tc : Thread Cert.TwoBestIdeal.nD Cert.TwoBestIdeal.τ).loc Cert.TwoBestIdeal.main_arg2)) (m' (((0 : Dev Cert.TwoBestIdeal.nD).tc : Thread Cert.TwoBestIdeal.nD Cert.TwoBestIdeal.τ).loc Cert.TwoBestIdeal.main_arg3))) i = 1#1 → r.2.mem (((0 : Dev Cert.TwoBestIdeal.nD).tc : Thread Cert.TwoBestIdeal.nD Cert.TwoBestIdeal.τ).loc Cert.TwoBestIdeal.main_v110) i = v0 i)
          ∧ r.2.mem (((0 : Dev Cert.TwoBestIdeal.nD).tc : Thread Cert.TwoBestIdeal.nD Cert.TwoBestIdeal.τ).loc Cert.TwoBestIdeal.main_arg0) = m' (((0 : Dev Cert.TwoBestIdeal.nD).tc : Thread Cert.TwoBestIdeal.nD Cert.TwoBestIdeal.τ).loc Cert.TwoBestIdeal.main_arg0)
          ∧ r.2.mem (((0 : Dev Cert.TwoBestIdeal.nD).tc : Thread Cert.TwoBestIdeal.nD Cert.TwoBestIdeal.τ).loc Cert.TwoBestIdeal.main_arg1) = m' (((0 : Dev Cert.TwoBestIdeal.nD).tc : Thread Cert.TwoBestIdeal.nD Cert.TwoBestIdeal.τ).loc Cert.TwoBestIdeal.main_arg1)
          ∧ r.2.mem (((0 : Dev Cert.TwoBestIdeal.nD).tc : Thread Cert.TwoBestIdeal.nD Cert.TwoBestIdeal.τ).loc Cert.TwoBestIdeal.main_arg2) = m' (((0 : Dev Cert.TwoBestIdeal.nD).tc : Thread Cert.TwoBestIdeal.nD Cert.TwoBestIdeal.τ).loc Cert.TwoBestIdeal.main_arg2)
          ∧ r.2.mem (((0 : Dev Cert.TwoBestIdeal.nD).tc : Thread Cert.TwoBestIdeal.nD Cert.TwoBestIdeal.τ).loc Cert.TwoBestIdeal.main_arg3) = m' (((0 : Dev Cert.TwoBestIdeal.nD).tc : Thread Cert.TwoBestIdeal.nD Cert.TwoBestIdeal.τ).loc Cert.TwoBestIdeal.main_arg3))

def Claim : Prop :=
  ∃ (hKernel : Cert.Kernel.Facts) (hKernelIdeal : Cert.KernelIdeal.Facts) (hReferenceIdeal : Cert.ReferenceIdeal.Facts) (hTwoBestIdeal : Cert.TwoBestIdeal.Facts) (hOn_two_lead : Cert.On_two_lead.Facts),
    quiescent_Kernel (hKernel := hKernel)
    ∧ quiescent_KernelIdeal (hKernelIdeal := hKernelIdeal)
    ∧ quiescent_ReferenceIdeal (hReferenceIdeal := hReferenceIdeal)
    ∧ quiescent_TwoBestIdeal (hTwoBestIdeal := hTwoBestIdeal)
    ∧ preserves_Kernel_KernelIdeal
    ∧ algebraic_KernelIdeal_ReferenceIdeal (hKernelIdeal := hKernelIdeal) (hReferenceIdeal := hReferenceIdeal)
    ∧ algebraic_KernelIdeal_TwoBestIdeal_on_two_lead (hKernelIdeal := hKernelIdeal) (hTwoBestIdeal := hTwoBestIdeal) (hOn_two_lead := hOn_two_lead)
-- ==== On_two_lead.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x1 : Shape := ⟨2, ![512, 1]⟩
abbrev S_ : Shape := ⟨0, ![]⟩

class Facts : Prop where
  slices_S512x4_S512x1_0_0 : S512x4.Slices ![0, 0] S512x1
  slices_S512x4_S512x1_0_1 : S512x4.Slices ![0, 1] S512x1
  slices_S512x4_S512x1_0_2 : S512x4.Slices ![0, 2] S512x1
  bcast_S_S512x1 : S_.BroadcastsInDim S512x1 (![] : Fin 0 → Fin S512x1.rank)
  bcast_S512x1_S512x512_0_1 : S512x1.BroadcastsInDim S512x512 (![0, 1] : Fin 2 → Fin S512x512.rank)
  dot_S512x512_S512x4_S512x4_1_0_0_1_n_n_wf : DotDims.WF S512x512 S512x4 S512x4 [1] [0] [0] [1] [] []

variable [Facts]

variable {F : FTy → Type} [FloatOps F]
def dot_S512x512_S512x4_S512x4_1_0_0_1_n_n : DotDims S512x512 S512x4 S512x4 where
  lhsContracting := [1]
  rhsContracting := [0]
  lhsNonContracting := [0]
  rhsNonContracting := [1]
  lhsBatch := []
  rhsBatch := []
  wf := dot_S512x512_S512x4_S512x4_1_0_0_1_n_n_wf
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S512x4 .f32) : FVec F S512x4 .f32 :=
  let v0 : FVec F S512x4 .f32 := (fun x => Host.sort S512x4 1 comparator_f32_d1 x) arg0
  v0

def fn {F : FTy → Type} [FloatOps F] (main_arg0 : FVec F S512x512 .f32) (main_arg1 : FVec F S512x4 .f32) (main_arg2 : FVec F S4x512x1024 .f32) (main_arg3 : FVec F S4x1024x512 .f32) : IVec S512x512 1 :=
  let main_v0 : FVec F S512x4 .f32 := (fun l r => Host.dotGeneral dot_S512x512_S512x4_S512x4_1_0_0_1_n_n (some .fp32) l r) main_arg0 main_arg1
  let main_v1 : FVec F S512x4 .f32 := Host.negf main_v0
  let main_v2 : FVec F S512x4 .f32 := fn_sort (F := F) main_v1
  let main_v3 : FVec F S512x4 .f32 := Host.negf main_v2
  let main_v4 : FVec F S512x1 .f32 := (extractStridedSlice S512x1 ![0, 0] · slices_S512x4_S512x1_0_0) main_v3
  let main_v5 : FVec F S512x1 .f32 := (extractStridedSlice S512x1 ![0, 1] · slices_S512x4_S512x1_0_1) main_v3
  let main_v6 : FVec F S512x1 .f32 := (extractStridedSlice S512x1 ![0, 2] · slices_S512x4_S512x1_0_2) main_v3
  let main_cst : FVec F S_ .f32 := constant S_ .f32 0x7F800000#32
  let main_v7 : FVec F S512x1 .f32 := broadcastInDim S512x1 ![] bcast_S_S512x1 main_cst
  let main_v8 : IVec S512x1 1 := cmpf .olt main_v4 main_v7
  let main_v9 : IVec S512x1 1 := cmpf .ogt main_v4 main_v5
  let main_v10 : IVec S512x1 1 := andi main_v8 main_v9
  let main_v11 : IVec S512x1 1 := cmpf .ogt main_v5 main_v6
  let main_v12 : IVec S512x1 1 := andi main_v10 main_v11
  let main_v13 : IVec S512x512 1 := broadcastInDim S512x512 ![0, 1] bcast_S512x1_S512x512_0_1 main_v12
  main_v13
-- ==== Kernel.lean ====
abbrev S256x512 : Shape := ⟨2, ![256, 512]⟩
abbrev S512x2 : Shape := ⟨2, ![512, 2]⟩
abbrev S2x512x1024 : Shape := ⟨3, ![2, 512, 1024]⟩
abbrev S2x1024x512 : Shape := ⟨3, ![2, 1024, 512]⟩
abbrev S2x512 : Shape := ⟨2, ![2, 512]⟩
abbrev S2x256 : Shape := ⟨2, ![2, 256]⟩
abbrev S2 : Shape := ⟨1, ![2]⟩
abbrev S6 : Shape := ⟨1, ![6]⟩
abbrev S1 : Shape := ⟨1, ![1]⟩
abbrev S_ : Shape := ⟨0, ![]⟩
abbrev S128x512 : Shape := ⟨2, ![128, 512]⟩
abbrev S256x2 : Shape := ⟨2, ![256, 2]⟩
abbrev S256x4 : Shape := ⟨2, ![256, 4]⟩
abbrev S256 : Shape := ⟨1, ![256]⟩
abbrev S256x1 : Shape := ⟨2, ![256, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S1x128 : Shape := ⟨2, ![1, 128]⟩
abbrev S128x1 : Shape := ⟨2, ![128, 1]⟩
abbrev S128x1024 : Shape := ⟨2, ![128, 1024]⟩
abbrev S256x1024 : Shape := ⟨2, ![256, 1024]⟩

abbrev nBuf : Space → Nat
  | .hbm => 5
  | .vmem => 13
  | .smem => 0
  | _ => 0

abbrev bufTy : (tb : Table) → Fin (tcTables nBuf tb) → BufTy
  | .hbm, ⟨0, _⟩ => ⟨S256x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S256x512, .f32⟩
  | .local _ .vmem, ⟨0, _⟩ => ⟨S256x512, .f32⟩
  | .local _ .vmem, ⟨1, _⟩ => ⟨S512x2, .f32⟩
  | .local _ .vmem, ⟨2, _⟩ => ⟨S256x512, .f32⟩
  | .local _ .vmem, ⟨3, _⟩ => ⟨S2x512x1024, .f32⟩
  | .local _ .vmem, ⟨4, _⟩ => ⟨S2x1024x512, .f32⟩
  | .local _ .vmem, ⟨5, _⟩ => ⟨S256x512, .bf16⟩
  | .local _ .vmem, ⟨6, _⟩ => ⟨S256x512, .bf16⟩
  | .local _ .vmem, ⟨7, _⟩ => ⟨S2x512, .f32⟩
  | .local _ .vmem, ⟨8, _⟩ => ⟨S2x512, .f32⟩
  | .local _ .vmem, ⟨9, _⟩ => ⟨S2x256, .f32⟩
  | .local _ .vmem, ⟨10, _⟩ => ⟨S2x256, .f32⟩
  | .local _ .vmem, ⟨11, _⟩ => ⟨S256x512, .bf16⟩
  | .local _ .vmem, ⟨12, _⟩ => ⟨S256x512, .bf16⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v16 : BitVec 32 := Scalar.muli v2 c4_i32_7
  let v17 : BitVec 32 := Scalar.addi c0_i32_8 v16
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_9 : BitVec 32 := 2#32
  let v18 : BitVec 32 := Scalar.muli v9 c2_i32_9
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32_18 v28
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_19 : BitVec 32 := 2#32
  let v30 : BitVec 32 := Scalar.muli v9 c2_i32_19
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v32 : BitVec 32 := Scalar.muli v8 c1_i32_20
  let v33 : BitVec 32 := Scalar.addi v31 v32
  v33.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_29 : BitVec 32 := 2#32
  let v42 : BitVec 32 := Scalar.muli v9 c2_i32_29
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v44 : BitVec 32 := Scalar.muli v8 c1_i32_30
  let v45 : BitVec 32 := Scalar.addi v43 v44
  v45.toNat
def k0_dev4 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v58 : BitVec 32 := Scalar.muli v2 c4_i32_40
  let v59 : BitVec 32 := Scalar.addi c0_i32_41 v58
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v60 : BitVec 32 := Scalar.muli v9 c2_i32_42
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v62 : BitVec 32 := Scalar.muli v8 c1_i32_43
  let v63 : BitVec 32 := Scalar.addi v61 v62
  v63.toNat
def k0_dev5 (d0 : Dev nD) : Nat :=
  let c0_i32_71 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_70 : BitVec 32 := 4#32
  let v120 : BitVec 32 := Scalar.muli v2 c4_i32_70
  let v121 : BitVec 32 := Scalar.addi c0_i32_71 v120
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_72 : BitVec 32 := 2#32
  let v122 : BitVec 32 := Scalar.muli v9 c2_i32_72
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v124 : BitVec 32 := Scalar.muli v8 c1_i32_73
  let v125 : BitVec 32 := Scalar.addi v123 v124
  v125.toNat
def k0_dev6 (d0 : Dev nD) : Nat :=
  let c0_i32_131 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_130 : BitVec 32 := 4#32
  let v196 : BitVec 32 := Scalar.muli v2 c4_i32_130
  let v197 : BitVec 32 := Scalar.addi c0_i32_131 v196
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_132 : BitVec 32 := 2#32
  let v198 : BitVec 32 := Scalar.muli v9 c2_i32_132
  let v199 : BitVec 32 := Scalar.addi v197 v198
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v200 : BitVec 32 := Scalar.muli v8 c1_i32_133
  let v201 : BitVec 32 := Scalar.addi v199 v200
  v201.toNat
def k0_dev7 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v248 : BitVec 32 := Scalar.muli v2 c4_i32_170
  let v249 : BitVec 32 := Scalar.addi c0_i32_171 v248
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_172 : BitVec 32 := 2#32
  let v250 : BitVec 32 := Scalar.muli v9 c2_i32_172
  let v251 : BitVec 32 := Scalar.addi v249 v250
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_173 : BitVec 32 := 1#32
  let v252 : BitVec 32 := Scalar.muli v8 c1_i32_173
  let v253 : BitVec 32 := Scalar.addi v251 v252
  v253.toNat
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S_ : Shape := ⟨0, ![]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 85
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x4, .f32⟩
  | .hbm, ⟨2, _⟩ => ⟨S4x512x1024, .f32⟩
  | .hbm, ⟨3, _⟩ => ⟨S4x1024x512, .f32⟩
  | .hbm, ⟨4, _⟩ => ⟨S512x4, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x4, .f32⟩
  | .hbm, ⟨9, _⟩ => ⟨S512x4, .i1⟩
  | .hbm, ⟨10, _⟩ => ⟨S_, .f32⟩
  | .hbm, ⟨11, _⟩ => ⟨S_, .f32⟩
  | .hbm, ⟨12, _⟩ => ⟨S512x4, .f32⟩
  | .hbm, ⟨13, _⟩ => ⟨S512x4, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S512x4, .f32⟩
  | .hbm, ⟨18, _⟩ => ⟨S512x4, .i1⟩
  | .hbm, ⟨19, _⟩ => ⟨S512x4, .f32⟩
  | .hbm, ⟨20, _⟩ => ⟨S512x4, .f32⟩
  | .hbm, ⟨21, _⟩ => ⟨S512x4, .f32⟩
  | .hbm, ⟨22, _⟩ => ⟨S_, .f32⟩
  | .hbm, ⟨23, _⟩ => ⟨S_, .f32⟩
  | .hbm, ⟨24, _⟩ => ⟨S512x4, .f32⟩
  | .hbm, ⟨25, _⟩ => ⟨S512x4, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S512x4, .f32⟩
  | .hbm, ⟨30, _⟩ => ⟨S512x4, .f32⟩
  | .hbm, ⟨31, _⟩ => ⟨S_, .f32⟩
  | .hbm, ⟨32, _⟩ => ⟨S512x512, .f32⟩
  | .hbm, ⟨33, _⟩ => ⟨S1x512x1024, .f32⟩
  | .hbm, ⟨34, _⟩ => ⟨S512x1024, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S1x1024x512, .f32⟩
  | .hbm, ⟨40, _⟩ => ⟨S1024x512, .f32⟩
  | .hbm, ⟨41, _⟩ => ⟨S512x512, .f32⟩
  | .hbm, ⟨42, _⟩ => ⟨S512x1, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S1x512x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x1024, .f32⟩
  | .hbm, ⟨51, _⟩ => ⟨S512x1024, .f32⟩
  | .hbm, ⟨52, _⟩ => ⟨S1x1024x512, .f32⟩
  | .hbm, ⟨53, _⟩ => ⟨S1024x512, .f32⟩
  | .hbm, ⟨54, _⟩ => ⟨S512x512, .f32⟩
  | .hbm, ⟨55, _⟩ => ⟨S512x1, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S1x512x1024, .f32⟩
  | .hbm, ⟨60, _⟩ => ⟨S512x1024, .f32⟩
  | .hbm, ⟨61, _⟩ => ⟨S512x1024, .f32⟩
  | .hbm, ⟨62, _⟩ => ⟨S_, .f32⟩
  | .hbm, ⟨63, _⟩ => ⟨S512x1024, .f32⟩
  | .hbm, ⟨64, _⟩ => ⟨S512x1024, .f32⟩
  | .hbm, ⟨65, _⟩ => ⟨S1x1024x512, .f32⟩
  | .hbm, ⟨66, _⟩ => ⟨S1024x512, .f32⟩
  | .hbm, ⟨67, _⟩ => ⟨S512x512, .f32⟩
  | .hbm, ⟨68, _⟩ => ⟨S512x1, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S1x512x1024, .f32⟩
  | .hbm, ⟨73, _⟩ => ⟨S512x1024, .f32⟩
  | .hbm, ⟨74, _⟩ => ⟨S512x1024, .f32⟩
  | .hbm, ⟨75, _⟩ => ⟨S_, .f32⟩
  | .hbm, ⟨76, _⟩ => ⟨S512x1024, .f32⟩
  | .hbm, ⟨77, _⟩ => ⟨S512x1024, .f32⟩
  | .hbm, ⟨78, _⟩ => ⟨S1x1024x512, .f32⟩
  | .hbm, ⟨79, _⟩ => ⟨S1024x512, .f32⟩
  | .hbm, ⟨80, _⟩ => ⟨S512x512, .f32⟩
  | .hbm, ⟨81, _⟩ => ⟨S512x1, .f32⟩
  | .hbm, ⟨82, _⟩ => ⟨S512x512, .f32⟩
  | .hbm, ⟨83, _⟩ => ⟨S512x512, .f32⟩
  | .hbm, ⟨84, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== TwoBestIdeal.lean ====
abbrev S512x512 : Shape := ⟨2, ![512, 512]⟩
abbrev S512x4 : Shape := ⟨2, ![512, 4]⟩
abbrev S4x512x1024 : Shape := ⟨3, ![4, 512, 1024]⟩
abbrev S4x1024x512 : Shape := ⟨3, ![4, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 185
  | .vmem => 0
  | .smem => 0
  | _ => 0

abbrev hbmTy0_0 (i : Nat) : BufTy := match i % 128 with
  | 0 => ⟨S512x512, .f32⟩
  | 1 => ⟨S512x4, .f32⟩
  | 2 => ⟨S4x512x1024, .f32⟩
  | 3 => ⟨S4x1024x512, .f32⟩
  | 4 => ⟨S512x4, .f32⟩
  | 5 => ⟨S512x4, .f32⟩
  | 6 => ⟨S512x4, .i32⟩
  | 7 => ⟨S512x4, .f32⟩
  | 8 => ⟨S512x4, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S1x512x1024, .f32⟩
  | 44 => ⟨S512x1024, .f32⟩
  | 45 => ⟨S512x1024, .f32⟩
  | 46 => ⟨S_, .f32⟩
  | 47 => ⟨S512x1024, .f32⟩
  | 48 => ⟨S512x1024, .f32⟩
  | 49 => ⟨S1x1024x512, .f32⟩
  | 50 => ⟨S1024x512, .f32⟩
  | 51 => ⟨S512x512, .f32⟩
  | 52 => ⟨S1x512x1024, .f32⟩
  | 53 => ⟨S512x1024, .f32⟩
  | 54 => ⟨S512x1024, .f32⟩
  | 55 => ⟨S_, .f32⟩
  | 56 => ⟨S512x1024, .f32⟩
  | 57 => ⟨S512x1024, .f32⟩
  | 58 => ⟨S1x1024x512, .f32⟩
  | 59 => ⟨S1024x512, .f32⟩
  | 60 => ⟨S512x512, .f32⟩
  | 61 => ⟨S1x512x1024, .f32⟩
  | 62 => ⟨S512x1024, .f32⟩
  | 63 => ⟨S512x1024, .f32⟩
  | 64 => ⟨S_, .f32⟩
  | 65 => ⟨S512x1024, .f32⟩
  | 66 => ⟨S512x1024, .f32⟩
  | 67 => ⟨S1x1024x512, .f32⟩
  | 68 => ⟨S1024x512, .f32⟩
  | 69 => ⟨S512x512, .f32⟩
  | 70 => ⟨S1x512x1024, .f32⟩
  | 71 => ⟨S512x1024, .f32⟩
  | 72 => ⟨S512x1024, .f32⟩
  | 73 => ⟨S_, .f32⟩
  | 74 => ⟨S512x1024, .f32⟩
  | 75 => ⟨S512x1024, .f32⟩
  | 76 => ⟨S1x1024x512, .f32⟩
  | 77 => ⟨S1024x512, .f32⟩
  | 78 => ⟨S512x512, .f32⟩
  | 79 => ⟨S_, .f32⟩
  | 80 => ⟨S512x512, .f32⟩
  | 81 => ⟨S512x1, .i32⟩
  | 82 => ⟨S_, .i32⟩
  | 83 => ⟨S512x1, .i32⟩
  | 84 => ⟨S512x1, .i1⟩
  | 85 => ⟨S512x1, .f32⟩
  | 86 => ⟨S512x512, .f32⟩
  | 87 => ⟨S512x512, .f32⟩
  | 88 => ⟨S_, .f32⟩
  | 89 => ⟨S_, .f32⟩
  | 90 => ⟨S512x512, .i1⟩
  | 91 => ⟨S512x512, .f32⟩
  | 92 => ⟨S512x512, .f32⟩
  | 93 => ⟨S512x512, .f32⟩
  | 94 => ⟨S512x1, .i32⟩
  | 95 => ⟨S_, .i32⟩
  | 96 => ⟨S512x1, .i32⟩
  | 97 => ⟨S512x1, .i1⟩
  | 98 => ⟨S512x1, .f32⟩
  | 99 => ⟨S512x512, .f32⟩
  | 100 => ⟨S512x512, .f32⟩
  | 101 => ⟨S_, .f32⟩
  | 102 => ⟨S_, .f32⟩
  | 103 => ⟨S512x512, .i1⟩
  | 104 => ⟨S512x512, .f32⟩
  | 105 => ⟨S512x512, .f32⟩
  | 106 => ⟨S512x512, .f32⟩
  | 107 => ⟨S512x1, .i32⟩
  | 108 => ⟨S_, .i32⟩
  | 109 => ⟨S512x1, .i32⟩
  | 110 => ⟨S512x1, .i1⟩
  | 111 => ⟨S512x1, .f32⟩
  | 112 => ⟨S512x512, .f32⟩
  | 113 => ⟨S512x512, .f32⟩
  | 114 => ⟨S_, .f32⟩
  | 115 => ⟨S_, .f32⟩
  | 116 => ⟨S512x512, .i1⟩
  | 117 => ⟨S512x512, .f32⟩
  | 118 => ⟨S512x512, .f32⟩
  | 119 => ⟨S512x512, .f32⟩
  | 120 => ⟨S512x1, .i32⟩
  | 121 => ⟨S_, .i32⟩
  | 122 => ⟨S512x1, .i32⟩
  | 123 => ⟨S512x1, .i1⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S512x1, .f32⟩
  | 10 => ⟨S512x512, .f32⟩
  | 11 => ⟨S512x512, .f32⟩
  | 12 => ⟨S_, .f32⟩
  | 13 => ⟨S_, .f32⟩
  | 14 => ⟨S512x512, .i1⟩
  | 15 => ⟨S512x512, .f32⟩
  | 16 => ⟨S512x512, .f32⟩
  | 17 => ⟨S512x512, .f32⟩
  | 18 => ⟨S512x1, .i32⟩
  | 19 => ⟨S_, .i32⟩
  | 20 => ⟨S512x1, .i32⟩
  | 21 => ⟨S512x1, .i1⟩
  | 22 => ⟨S512x1, .f32⟩
  | 23 => ⟨S512x512, .f32⟩
  | 24 => ⟨S512x512, .f32⟩
  | 25 => ⟨S_, .f32⟩
  | 26 => ⟨S_, .f32⟩
  | 27 => ⟨S512x512, .i1⟩
  | 28 => ⟨S512x512, .f32⟩
  | 29 => ⟨S512x512, .f32⟩
  | 30 => ⟨S512x512, .f32⟩
  | 31 => ⟨S512x1, .i32⟩
  | 32 => ⟨S_, .i32⟩
  | 33 => ⟨S512x1, .i32⟩
  | 34 => ⟨S512x1, .i1⟩
  | 35 => ⟨S512x1, .f32⟩
  | 36 => ⟨S512x512, .f32⟩
  | 37 => ⟨S512x512, .f32⟩
  | 38 => ⟨S_, .f32⟩
  | 39 => ⟨S_, .f32⟩
  | 40 => ⟨S512x512, .i1⟩
  | 41 => ⟨S512x512, .f32⟩
  | 42 => ⟨S512x512, .f32⟩
  | 43 => ⟨S512x512, .f32⟩
  | 44 => ⟨S512x1, .i32⟩
  | 45 => ⟨S_, .i32⟩
  | 46 => ⟨S512x1, .i32⟩
  | 47 => ⟨S512x1, .i1⟩
  | 48 => ⟨S512x1, .f32⟩
  | 49 => ⟨S512x512, .f32⟩
  | 50 => ⟨S512x512, .f32⟩
  | 51 => ⟨S_, .f32⟩
  | 52 => ⟨S_, .f32⟩
  | 53 => ⟨S512x512, .i1⟩
  | 54 => ⟨S512x512, .f32⟩
  | 55 => ⟨S512x512, .f32⟩
  | 56 => ⟨S512x512, .f32⟩
  | _ => ⟨S512x512, .f32⟩

abbrev hbmTy (i : Nat) : BufTy := match i / 128 with
  | 0 => hbmTy0_0 i
  | 1 => hbmTy0_1 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_1 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_2 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_3 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_4 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_5 : Ref sig .tc := ⟨.hbm, 79, rfl⟩
abbrev main_v46 : Ref sig .tc := ⟨.hbm, 80, rfl⟩
abbrev main_v47 : Ref sig .tc := ⟨.hbm, 81, rfl⟩
abbrev main_c : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_6 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_c_7 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_8 : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_9 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_cst_10 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_11 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_c_15 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_16 : Ref sig .tc := ⟨.hbm, 153, rfl⟩
abbrev main_call7_v0 : Ref sig .tc := ⟨.hbm, 154, rfl⟩
abbrev main_call7_v1 : Ref sig .tc := ⟨.hbm, 155, rfl⟩
abbrev main_call7_v2 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_c_17 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_18 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_c_19 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_20 : Ref sig .tc := ⟨.hbm, 179, rfl⟩
abbrev main_call9_v0 : Ref sig .tc := ⟨.hbm, 180, rfl⟩
abbrev main_call9_v1 : Ref sig .tc := ⟨.hbm, 181, rfl⟩
abbrev main_call9_v2 : Ref sig .tc := ⟨.hbm, 182, rfl⟩
abbrev main_v109 : Ref sig .tc := ⟨.hbm, 183, rfl⟩
abbrev main_v110 : Ref sig .tc := ⟨.hbm, 184, rfl⟩

abbrev nD : Nat := 1
abbrev τ : Topo := Topo.v7x

variable {F : FTy → Type} [FloatOps F]
-- ==== Proof.Common.lean ====
/-
# The protocol: devices, cells, contents, schedule

Every device exchanges with ONE other device, its `peer` (the device whose coordinate on the mesh's
second axis differs). A device has fifteen semaphores that matter:

* the barrier semaphore: the peer signals it once, handing over its four landing buffers;
* two local copies of the expert weights into scratch (`w` cells);
* six send cells and six receive cells, one pair per remote copy. In program order the copies are:
  the two halves of the narrowed tokens (0, 1), the router columns transposed (2), the routing
  weights of the peer's experts transposed (3), the two halves of the partial result (4, 5).

Each cell runs ONE round with one duty. What the landing hands over is stated with its contents: the
receive cells hand the landing buffer holding what the peer sent, the send cells hand the source back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, both with duty names `Unit` -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The devices -/

set_option backward.proofsInPublic true in
/-- The device a device exchanges with: the second mesh coordinate flipped. -/
def peer (c : Dev nD) : Dev nD := ⟨if c.val / 2 % 2 = 0 then c.val + 2 else c.val - 2, by
  have h : c.val < 8 := c.isLt
  show _ < 8
  split <;> omega⟩

theorem peer_peer (c : Dev nD) : peer (peer c) = c := by revert c; decide

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide
theorem dev7_eq (c : Dev nD) : (⟨k0_dev7 c, k0_dev7_lt c⟩ : Dev nD) = peer c := by revert c; decide

/-- Devices paired with their peers, as a permutation. -/
def peers : Dev nD ≃ Dev nD := ⟨peer, peer, peer_peer, peer_peer⟩

/-! ## The memrefs -/

abbrev xM : Memref sig .tc .vmem S256x512 .f32 := Memref.whole cc0_stg0_0
abbrev rM : Memref sig .tc .vmem S512x2 .f32 := Memref.whole cc0_stg1_0
abbrev oM : Memref sig .tc .vmem S256x512 .f32 := Memref.whole cc0_stg2_0
abbrev w1H : Memref sig .tc .hbm S2x512x1024 .f32 := Memref.whole main_arg2
abbrev w2H : Memref sig .tc .hbm S2x1024x512 .f32 := Memref.whole main_arg3
abbrev w1M : Memref sig .tc .vmem S2x512x1024 .f32 := Memref.whole cc0_scratch0
abbrev w2M : Memref sig .tc .vmem S2x1024x512 .f32 := Memref.whole cc0_scratch1
abbrev xsM : Memref sig .tc .vmem S256x512 .bf16 := Memref.whole cc0_scratch2
abbrev xrM : Memref sig .tc .vmem S256x512 .bf16 := Memref.whole cc0_scratch3
abbrev rsM : Memref sig .tc .vmem S2x512 .f32 := Memref.whole cc0_scratch4
abbrev rrM : Memref sig .tc .vmem S2x512 .f32 := Memref.whole cc0_scratch5
abbrev wsM : Memref sig .tc .vmem S2x256 .f32 := Memref.whole cc0_scratch6
abbrev wrM : Memref sig .tc .vmem S2x256 .f32 := Memref.whole cc0_scratch7
abbrev psM : Memref sig .tc .vmem S256x512 .bf16 := Memref.whole cc0_scratch8
abbrev prM : Memref sig .tc .vmem S256x512 .bf16 := Memref.whole cc0_scratch9

/-- The upper and the lower half of the token rows. -/
abbrev h0 : Rect S256x512 := Rect.unit (s := S256x512) ![0, 0] S128x512.size inb_S256x512_S128x512_0_0
abbrev h1 : Rect S256x512 := Rect.unit (s := S256x512) ![128, 0] S128x512.size inb_S256x512_S128x512_128_0

/-- A 256-row memref's upper and lower half. -/
abbrev up {e : EltTy} (M : Memref sig .tc .vmem S256x512 e) : Memref sig .tc .vmem S128x512 e := M.slice h0 (fun _ => rfl)
abbrev dn {e : EltTy} (M : Memref sig .tc .vmem S256x512 e) : Memref sig .tc .vmem S128x512 e := M.slice h1 (fun _ => rfl)

/-- Contents of a half. -/
abbrev upv {α : Type} (v : S256x512.Idx → α) : S128x512.Idx → α := fun j => v (h0.emb j)
abbrev dnv {α : Type} (v : S256x512.Idx → α) : S128x512.Idx → α := fun j => v (h1.emb j)

/-! ## Contents -/

/-- The device's token rows, router columns and expert weights. -/
def X (c : Dev nD) : FVec F S256x512 .f32 := (win0_0.blk (0 : Fin 1)).view.read (Elt F) (m ((c : Thread nD τ).loc main_arg0))
def R (c : Dev nD) : FVec F S512x2 .f32 := (win0_1.blk (0 : Fin 1)).view.read (Elt F) (m ((c : Thread nD τ).loc main_arg1))
def W1 (c : Dev nD) : FVec F S2x512x1024 .f32 := m ((c : Thread nD τ).loc main_arg2)
def W2 (c : Dev nD) : FVec F S2x1024x512 .f32 := m ((c : Thread nD τ).loc main_arg3)

/-- Whether the device's experts are the first two. -/
def lo (c : Dev nD) : BitVec 1 := Scalar.cmpi .eq (Scalar.remsi (Scalar.divsi (Dev.word c) 2#32) 2#32) 0#32

/-- What the device sends first: its tokens narrowed, its router columns transposed. -/
def xS (c : Dev nD) : FVec F S256x512 .bf16 := k0_pay1 (X m c)
def rS (c : Dev nD) : FVec F S2x512 .f32 := k0_pay2 (R m c)

/-- The gates, their row maximum, which gates are the maximum, the gates without those. -/
def gt (c : Dev nD) : FVec F S256x4 .f32 := k0_pay3 (lo c) (X m c) (R m c) (X m c) (rS m (peer c))
def gmax (c : Dev nD) : FVec F S256x1 .f32 := k0_pay4 (lo c) (X m c) (R m c) (X m c) (rS m (peer c))
def gtop (c : Dev nD) : IVec S256x4 1 := k0_pay5 (lo c) (X m c) (R m c) (X m c) (rS m (peer c))
def grest (c : Dev nD) : FVec F S256x4 .f32 := k0_pay6 (lo c) (X m c) (R m c) (X m c) (rS m (peer c))

/-- The routing weights of the device's tokens: for its own experts, and (transposed, to send) for its peer's. -/
def wOwn (c : Dev nD) : FVec F S256x2 .f32 := k0_pay8 (lo c) (gt m c) (gmax m c) (gtop m c) (grest m c)
def wS (c : Dev nD) : FVec F S2x256 .f32 := k0_pay9 (lo c) (gt m c) (gmax m c) (gtop m c) (grest m c)

/-- The rectangles of the two experts' weights and of the received routing weights. -/
abbrev e1 (i : Nat) (h : ∀ a, ![i, 0, 0] a + S1x512x1024.size a ≤ S2x512x1024.size a) : Rect S2x512x1024 := Rect.unit (s := S2x512x1024) ![i, 0, 0] S1x512x1024.size h
abbrev e2 (i : Nat) (h : ∀ a, ![i, 0, 0] a + S1x1024x512.size a ≤ S2x1024x512.size a) : Rect S2x1024x512 := Rect.unit (s := S2x1024x512) ![i, 0, 0] S1x1024x512.size h
abbrev q (i j : Nat) (h : ∀ a, ![i, j] a + S1x128.size a ≤ S2x256.size a) : Rect S2x256 := Rect.unit (s := S2x256) ![i, j] S1x128.size h

/-- The two experts' layers, narrowed. -/
def w1a (c : Dev nD) : FVec F S512x1024 .bf16 := k0_pay11 (k0_pay10 (w1M.view.readAt (Elt F) (e1 0 inb_S2x512x1024_S1x512x1024_0_0_0).toLoadRect (W1 m c)))
def w1b (c : Dev nD) : FVec F S512x1024 .bf16 := k0_pay12 (w1M.view.readAt (Elt F) (e1 1 inb_S2x512x1024_S1x512x1024_1_0_0).toLoadRect (W1 m c))
def w2a (c : Dev nD) : FVec F S1024x512 .bf16 := k0_pay13 (w2M.view.readAt (Elt F) (e2 0 inb_S2x1024x512_S1x1024x512_0_0_0).toLoadRect (W2 m c))
def w2b (c : Dev nD) : FVec F S1024x512 .bf16 := k0_pay14 (w2M.view.readAt (Elt F) (e2 1 inb_S2x1024x512_S1x1024x512_1_0_0).toLoadRect (W2 m c))

/-- The partial results for the peer's tokens, upper and lower half. -/
def pA (c : Dev nD) : FVec F S128x512 .bf16 :=
  k0_pay15 (w1a m c) (w1b m c) (w2a m c) (w2b m c)
    (wrM.view.readAt (Elt F) (q 0 0 inb_S2x256_S1x128_0_0).toLoadRect (wS m (peer c)))
    (wrM.view.readAt (Elt F) (q 1 0 inb_S2x256_S1x128_1_0).toLoadRect (wS m (peer c))) (upv (xS m (peer c)))
def pB (c : Dev nD) : FVec F S128x512 .bf16 :=
  k0_pay18 (w1a m c) (w1b m c) (w2a m c) (w2b m c)
    (k0_pay16 (wrM.view.readAt (Elt F) (q 0 128 inb_S2x256_S1x128_0_128).toLoadRect (wS m (peer c))))
    (k0_pay17 (wrM.view.readAt (Elt F) (q 1 128 inb_S2x256_S1x128_1_128).toLoadRect (wS m (peer c)))) (dnv (xS m (peer c)))

/-- The result's upper and lower half: the own experts' part plus the peer's. -/
def oA (c : Dev nD) : FVec F S128x512 .f32 :=
  k0_pay22 (k0_pay21 (wOwn m c) (w1a m c) (w1b m c) (w2a m c) (w2b m c) (xS m c) (k0_pay19 (wOwn m c))) (pA m (peer c))
def oB (c : Dev nD) : FVec F S128x512 .f32 :=
  k0_pay23 (k0_pay20 (wOwn m c) (w1a m c) (w1b m c) (w2a m c) (w2b m c) (xS m c) (k0_pay19 (wOwn m c))) (pB m (peer c))

/-! ## The cells -/

abbrev barS : Sem sig := (SemArray.scalar (sig.barrier 0 rfl) : Sems sig S_).sem

set_option backward.proofsInPublic true in
/-- A device's fifteen semaphores: 0 the barrier, 1–2 the weight copies, 3–8 the sends, 9–14 the receives. -/
def csem (j : Fin 15) : SemLoc sig := if j.val = 0 then .reg barS else .dma ⟨j.val + 2, by have := j.isLt; show _ < 17; omega⟩
abbrev kcell (ck : Dev nD × Fin 15) : GSem nD τ sig := ((ck.1 : Thread nD τ), csem ck.2)

/-- The units each cell's one landing brings. -/
def amt (j : Fin 15) : ℕ := match j with
  | 0 => 1
  | 1 => w1M.view.dmaCredit
  | 2 => w2M.view.dmaCredit
  | 3 => (up xrM).view.dmaCredit
  | 4 => (dn xrM).view.dmaCredit
  | 5 => rrM.view.dmaCredit
  | 6 => wrM.view.dmaCredit
  | 7 => (up prM).view.dmaCredit
  | 8 => (dn prM).view.dmaCredit
  | 9 => (up xrM).view.dmaCredit
  | 10 => (dn xrM).view.dmaCredit
  | 11 => rrM.view.dmaCredit
  | 12 => wrM.view.dmaCredit
  | 13 => (up prM).view.dmaCredit
  | 14 => (dn prM).view.dmaCredit

theorem amt_pos (j : Fin 15) : 0 < amt j := by
  fin_cases j <;> first | exact Nat.one_pos | exact View.dmaCredit_pos _ (by decide)

/-- Device `c` owns memref `M` at contents `v`, whole share. -/
abbrev own {sp : Space} {sh : Shape} {e : EltTy} (c : Dev nD) (M : Memref sig .tc sp sh e) (v : sh.Idx → Elt F e) : sProp 𝕄 :=
  owns (Ix := Unit) (Name := ℕ) (U := UU) (Lvl := ℕ) (c : Thread nD τ) M fullShare v
/-- … at some contents. -/
abbrev ownAny {sp : Space} {sh : Shape} {e : EltTy} (c : Dev nD) (M : Memref sig .tc sp sh e) : sProp 𝕄 := iprop(∃ v : sh.Idx → Elt F e, own c M v)

/-- What a landing on each cell hands its device. -/
def pay (c : Dev nD) (j : Fin 15) : sProp 𝕄 := match j with
  | 0 => iprop(ownAny (F := F) (peer c) (up xrM) ∗ ownAny (F := F) (peer c) (dn xrM) ∗ ownAny (F := F) (peer c) rrM ∗ ownAny (F := F) (peer c) wrM
      ∗ ownAny (F := F) (peer c) (up prM) ∗ ownAny (F := F) (peer c) (dn prM))
  | 1 => iprop(own c w1M (W1 m c) ∗ own c w1H (W1 m c))
  | 2 => iprop(own c w2M (W2 m c) ∗ own c w2H (W2 m c))
  | 3 => own c (up xsM) (upv (xS m c))
  | 4 => own c (dn xsM) (dnv (xS m c))
  | 5 => own c rsM (rS m c)
  | 6 => own c wsM (wS m c)
  | 7 => own c (up psM) (pA m c)
  | 8 => own c (dn psM) (pB m c)
  | 9 => own c (up xrM) (upv (xS m (peer c)))
  | 10 => own c (dn xrM) (dnv (xS m (peer c)))
  | 11 => own c rrM (rS m (peer c))
  | 12 => own c wrM (wS m (peer c))
  | 13 => own c (up prM) (pA m (peer c))
  | 14 => own c (dn prM) (pB m (peer c))

/-- What the peer's receive cells hand over, read from the sender's side. -/
theorem pay_recv0 (c : Dev nD) : pay m (peer c) (9 : Fin 15) = own (peer c) (up xrM) (upv (xS m c)) := by
  show own (peer c) (up xrM) (upv (xS m (peer (peer c)))) = _; rw [peer_peer]
theorem pay_recv1 (c : Dev nD) : pay m (peer c) (10 : Fin 15) = own (peer c) (dn xrM) (dnv (xS m c)) := by
  show own (peer c) (dn xrM) (dnv (xS m (peer (peer c)))) = _; rw [peer_peer]
theorem pay_recv2 (c : Dev nD) : pay m (peer c) (11 : Fin 15) = own (peer c) rrM (rS m c) := by
  show own (peer c) rrM (rS m (peer (peer c))) = _; rw [peer_peer]
theorem pay_recv3 (c : Dev nD) : pay m (peer c) (12 : Fin 15) = own (peer c) wrM (wS m c) := by
  show own (peer c) wrM (wS m (peer (peer c))) = _; rw [peer_peer]
theorem pay_recv4 (c : Dev nD) : pay m (peer c) (13 : Fin 15) = own (peer c) (up prM) (pA m c) := by
  show own (peer c) (up prM) (pA m (peer (peer c))) = _; rw [peer_peer]
theorem pay_recv5 (c : Dev nD) : pay m (peer c) (14 : Fin 15) = own (peer c) (dn prM) (pB m c) := by
  show own (peer c) (dn prM) (pB m (peer (peer c))) = _; rw [peer_peer]

instance pay_storable (c : Dev nD) (j : Fin 15) : BI.Storable (upEmb : UEmb _ 𝕄) (pay m c j) := by
  fin_cases j <;> (unfold pay; infer_instance)

set_option backward.proofsInPublic true in
/-- Which of the fifteen a semaphore is (the others read as 0). -/
def idx : SemLoc sig → Fin 15
  | .reg _ => 0
  | .dma n => if h : 3 ≤ n.val then ⟨n.val - 2, by have h2 : n.val < 17 := n.isLt; omega⟩ else 0

theorem idx_csem (j : Fin 15) : idx (csem j) = j := by revert j; decide

/-- One round of one duty on every cell. -/
def sched : Rounds.Schedule (GSem nD τ sig) Unit 𝕄 where
  duties _ r := if r = 0 then {()} else ∅
  unitless _ := False
  amount g _ _ := amt (idx g.2)
  payload g _ _ := pay m g.1.1 (idx g.2)
  amount_pos g _ _ _ := amt_pos _

instance sched_payload_storable (g : GSem nD τ sig) (r : ℕ) (d : Unit) :
    BI.Storable (upEmb : UEmb _ 𝕄) ((sched (F := F) m).payload g r d) := pay_storable m g.1.1 (idx g.2)

theorem duties_zero (g : GSem nD τ sig) : (sched (F := F) m).duties g 0 = {()} := rfl
theorem duties_later (g : GSem nD τ sig) : ∀ r, 1 ≤ r → (sched (F := F) m).duties g r = ∅ :=
  fun r hr => if_neg (by omega)
theorem amount_cell (c : Dev nD) (j : Fin 15) (d : Unit) : (sched (F := F) m).amount (kcell (c, j)) 0 d = amt j :=
  congrArg amt (idx_csem j)
theorem payload_cell (c : Dev nD) (j : Fin 15) (d : Unit) : (sched (F := F) m).payload (kcell (c, j)) 0 d = pay m c j :=
  congrArg (pay m c) (idx_csem j)
theorem expect_cell (c : Dev nD) (j : Fin 15) : (sched (F := F) m).expect (kcell (c, j)) 0 = amt j := by
  unfold Schedule.expect Schedule.amountOf; rw [duties_zero, Finset.sum_singleton, amount_cell]
theorem rest_cell (c : Dev nD) (j : Fin 15) :
    bigSep ((sched (F := F) m).duties (kcell (c, j)) 0 \ ∅) (fun d => (sched (F := F) m).payload (kcell (c, j)) 0 d) = pay m c j := by
  rw [Finset.sdiff_empty, duties_zero, bigSep_singleton, payload_cell]

/-! ## What a device owes, and the levels -/

/-- The send and the receive cell of remote copy `k`. -/
abbrev sj (k : Fin 6) : Fin 15 := ⟨k.val + 3, by have := k.isLt; omega⟩
abbrev rj (k : Fin 6) : Fin 15 := ⟨k.val + 9, by have := k.isLt; omega⟩

/-- The cell (of the peer) paid `n`-th from the end: the receives of copies 5, 4, …, 0, then the barrier. -/
def oj (n : ℕ) : Fin 15 := if h : n < 6 then ⟨14 - n, by omega⟩ else 0

/-- What a device still owes with `n` payments to go. -/
def owe (c : Dev nD) : ℕ → CellTallies nD τ sig Unit
  | 0 => 0
  | n + 1 => owe c n + tallyAt (kcell (peer c, oj n)) () (amt (oj n))

def L (g : GSem nD τ sig) : Finset Unit := if g.1.2 = .tc then {()} else ∅
/-- The level of each cell: barrier 1; receives 2, 2, 2, 3, 4, 4; the rest 0. -/
def lvl (s : SemLoc sig) : ℕ := match s with
  | .reg _ => 1
  | .dma n => if n.val < 11 then 0 else if n.val < 14 then 2 else if n.val = 14 then 3 else 4
def lv (g : GSem nD τ sig) (_ : Unit) : ℕ := lvl g.2

theorem L_of_ne (g : GSem nD τ sig) (h : g.1.2 ≠ .tc) : L g = ∅ := if_neg h
theorem L_tc (c : Dev nD) (sm : SemLoc sig) : L ((c : Thread nD τ), sm) = {()} := if_pos rfl

theorem owe_pos {c : Dev nD} {n : ℕ} {g : GSem nD τ sig} {u : Unit} (h : 0 < owe c n g u) : ∃ i < n, g = kcell (peer c, oj i) := by
  induction n with
  | zero => exact absurd h (Nat.lt_irrefl 0)
  | succ n ih =>
    unfold owe at h
    rw [Pi.add_apply, Finsupp.add_apply, tallyAt_apply] at h
    by_cases hg : g = kcell (peer c, oj n) ∧ u = ()
    · exact ⟨n, Nat.lt_succ_self _, hg.1⟩
    · rw [if_neg hg] at h
      obtain ⟨i, hi, e⟩ := ih h
      exact ⟨i, Nat.lt_succ_of_lt hi, e⟩

/-- A device may wait on a semaphore below everything it still owes. -/
theorem mayWait (c : Dev nD) (s : SemLoc sig) (n : ℕ) (h : ∀ i < n, lvl s < lvl (csem (oj i))) :
    (levAts L lv : sProp 𝕄) ⊢ MayWait (c : Thread nD τ) s () (owe c n) :=
  MayOwe.of_cut (L := L) (lev := lv) (lvl s) (fun p hp => by rw [Finset.mem_singleton.mp hp, L_tc]; exact Finset.mem_singleton_self _)
    (fun g u hg => by obtain ⟨i, -, rfl⟩ := owe_pos hg; rw [L_tc]; exact Finset.mem_singleton_self _)
    (fun p hp => by rw [Finset.mem_singleton.mp hp]; exact Nat.le_refl _)
    (fun g u hg => by obtain ⟨i, hi, rfl⟩ := owe_pos hg; exact h i hi)

/-- What the device has paid off so far, whatever it has waited on. -/
def ow (c : Dev nD) (n : ℕ) : sProp 𝕄 := iprop(∃ W, owes (c : Thread nD τ) (owe c n) W)

end Cert.MoeRun

end
-- ==== Proof.Rules.lean ====
/-
# One rule per effect, over owned memrefs

The library's rules for loads, stores, copies, sends and waits, restated for this protocol: memory is
held as `own c M v` (memref `M` of device `c` at contents `v`), the cells are named by their place in
the table `csem`, and the invariants of all cells come from one persistent assertion `recs`.
-/
module

public import proofs.«01_k».proof.Proof.Common

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Running `p` on device `c` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A part of the body on this call's buffers and semaphores. -/
abbrev onBufs {β : Type 1} (f : ∀ (a0 : Memref sig .tc .vmem S256x512 .f32) (w0 : a0.IsWhole)
      (a1 : Memref sig .tc .vmem S512x2 .f32) (w1 : a1.IsWhole)
      (a2 : Memref sig .tc .hbm S2x512x1024 .f32) (w2 : a2.IsWhole)
      (a3 : Memref sig .tc .hbm S2x1024x512 .f32) (w3 : a3.IsWhole)
      (a4 : Memref sig .tc .vmem S256x512 .f32) (w4 : a4.IsWhole)
      (a5 : Memref sig .tc .vmem S2x512x1024 .f32) (w5 : a5.IsWhole)
      (a6 : Memref sig .tc .vmem S2x1024x512 .f32) (w6 : a6.IsWhole)
      (a7 : Memref sig .tc .vmem S256x512 .bf16) (w7 : a7.IsWhole)
      (a8 : Memref sig .tc .vmem S256x512 .bf16) (w8 : a8.IsWhole)
      (a9 : Memref sig .tc .vmem S2x512 .f32) (w9 : a9.IsWhole)
      (a10 : Memref sig .tc .vmem S2x512 .f32) (w10 : a10.IsWhole)
      (a11 : Memref sig .tc .vmem S2x256 .f32) (w11 : a11.IsWhole)
      (a12 : Memref sig .tc .vmem S2x256 .f32) (w12 : a12.IsWhole)
      (a13 : Memref sig .tc .vmem S256x512 .bf16) (w13 : a13.IsWhole)
      (a14 : Memref sig .tc .vmem S256x512 .bf16) (w14 : a14.IsWhole)
      (s0 : DmaSems sig S2) (s1 : DmaSems sig S6) (s2 : DmaSems sig S6), β) : β :=
  f xM (Memref.isWhole_whole _)
    rM (Memref.isWhole_whole _)
    w1H (Memref.isWhole_whole _)
    w2H (Memref.isWhole_whole _)
    oM (Memref.isWhole_whole _)
    w1M (Memref.isWhole_whole _)
    w2M (Memref.isWhole_whole _)
    xsM (Memref.isWhole_whole _)
    xrM (Memref.isWhole_whole _)
    rsM (Memref.isWhole_whole _)
    rrM (Memref.isWhole_whole _)
    wsM (Memref.isWhole_whole _)
    wrM (Memref.isWhole_whole _)
    psM (Memref.isWhole_whole _)
    prM (Memref.isWhole_whole _)
    cc0_scratch10 cc0_scratch11 cc0_scratch12

/-- A program that returns has run to what holds of the value. -/
theorem run_ret {α : Type} {Q : α → sProp 𝕄} {c : Dev nD} {a : α} : Q a ⊢ run c (Prog.ret a) Q := by
  unfold run; rw [wp_ret]; iintro H; imodintro; iexact H

/-- A program run after another. -/
theorem run_bind {α β : Type} {Q : β → sProp 𝕄} {c : Dev nD} {p : Prog (TpuEff nD τ sig (Elt F) Λ₀ .tc) α} {k : α → Prog (TpuEff nD τ sig (Elt F) Λ₀ .tc) β} :
    run c p (fun a => run c (k a) Q) ⊢ run c (p >>= k) Q := .of_eq (wp_bind _ _ _ p k Q).symm

/-- Offset zero on both axes. -/
theorem hz2 : (![0, 0] : Fin 2 → Nat) = fun _ => 0 := funext fun a => by fin_cases a <;> rfl

/-! ## The invariants of all cells -/

def recs (K : Dev nD × Fin 15 → ℕ) : sProp 𝕄 :=
  iprop((bigSep Finset.univ fun ck : Dev nD × Fin 15 => cellInv ER (sched m) (K ck) (kcell ck))
    ∗ bigSep Finset.univ fun ck : Dev nD × Fin 15 => reached ER (kcell ck) 0)

instance recs_persistent (K : Dev nD × Fin 15 → ℕ) : BI.Persistent (recs m K) := by unfold recs; infer_instance

theorem recs_inv (K : Dev nD × Fin 15 → ℕ) (c : Dev nD) (j : Fin 15) : recs m K ⊢ cellInv ER (sched m) (K (c, j)) (kcell (c, j)) := by
  unfold recs
  iintro ⟨H, -⟩
  iapply (show (bigSep Finset.univ fun ck : Dev nD × Fin 15 => (cellInv ER (sched m) (K ck) (kcell ck) : sProp 𝕄)) ⊢ cellInv ER (sched m) (K (c, j)) (kcell (c, j)) from bigSep_elim (Finset.mem_univ (c, j))); iexact H

theorem recs_reached (K : Dev nD × Fin 15 → ℕ) (c : Dev nD) (j : Fin 15) : recs m K ⊢ reached ER (kcell (c, j)) 0 := by
  unfold recs
  iintro ⟨-, H⟩
  iapply (show (bigSep Finset.univ fun ck : Dev nD × Fin 15 => (reached ER (kcell ck) 0 : sProp 𝕄)) ⊢ reached ER (kcell (c, j)) 0 from bigSep_elim (Finset.mem_univ (c, j))); iexact H

/-! ## Loads and stores -/

section Mem
variable {c : Dev nD}

/-- A load of a whole buffer's rectangle. -/
theorem load_whole {α : Type} {Q : α → sProp 𝕄} {cs : CoreSpace} {e : EltTy} {s : Shape} {M : Memref sig .tc cs s e} {v : s.Idx → Elt F e}
    {r : LoadRect s} {hl : M.view.LoadsAt r} {k : (r.shape.Idx → Elt F e) → Prog (TpuEff nD τ sig (Elt F) Λ₀ .tc) α}
    (w : r.shape.Idx → Elt F e) (hM : M.view.set = Finset.univ) (hw : ∀ f, M.view.read (Elt F) f = v → M.view.readAt (Elt F) r f = w) :
    own c M v ⊢ iprop((own c M v -∗ run c (k w) Q) -∗ run c (.op (.load M r hl) k) Q) := by
  iintro H Hk
  ihave H' := (show own c M v ⊢ iprop(∃ f, ⌜M.view.read (Elt F) f = v⌝ ∗ (M.view.loc (c : Thread nD τ) ↦[M.view.set]{fullShare} f)) from .rfl) $$ H
  icases H' with ⟨%f, %hf, H⟩
  iapply (wp_load 𝒱₀ (c : Thread nD τ) none Set.univ (m := M) (by rw [hM]; exact Finset.subset_univ _)) $$ H
  iintro H
  rw [hw f hf]
  iapply Hk
  unfold own owns
  iexists f
  isplitr; · ipureintro; exact hf
  iexact H

/-- A load of exactly the slice that is owned. -/
theorem load_slice {α : Type} {Q : α → sProp 𝕄} {cs : CoreSpace} {e : EltTy} {s : Shape} {M : Memref sig .tc cs s e} {r : Rect s} {hr : ∀ a, r.stride a = 1}
    {v : r.shape.Idx → Elt F e} {hl : M.view.LoadsAt r} {k : (r.shape.Idx → Elt F e) → Prog (TpuEff nD τ sig (Elt F) Λ₀ .tc) α} :
    own c (M.slice r hr) v ⊢ iprop((own c (M.slice r hr) v -∗ run c (k v) Q) -∗ run c (.op (.load M r hl) k) Q) := by
  iintro H Hk
  ihave H' := (show own c (M.slice r hr) v ⊢ iprop(∃ f, ⌜(M.access r).read (Elt F) f = v⌝ ∗ ((M.access r).loc (c : Thread nD τ) ↦[(M.access r).set]{fullShare} f)) from .rfl) $$ H
  icases H' with ⟨%f, %hf, H⟩
  iapply (wp_load_rect 𝒱₀ (c : Thread nD τ) none Set.univ (m := M) (r := r) (Finset.Subset.refl _)) $$ H
  iintro H
  rw [hf]
  iapply Hk
  unfold own owns
  iexists f
  isplitr; · ipureintro; exact hf
  iexact H

/-- A store into exactly the slice that is owned. -/
theorem store_slice {α : Type} {Q : α → sProp 𝕄} {cs : CoreSpace} {e : EltTy} {s : Shape} {M : Memref sig .tc cs s e} {r : Rect s} {hr : ∀ a, r.stride a = 1}
    {v w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α} :
    own c (M.slice r hr) v ⊢ iprop((own c (M.slice r hr) w -∗ run c (k ⟨⟩) Q) -∗ run c (.op (.store M r w Finset.univ hx hm) k) Q) := by
  iintro H Hk
  ihave H' := (show own c (M.slice r hr) v ⊢ iprop(∃ f, ⌜(M.access r).read (Elt F) f = v⌝ ∗ ((M.access r).loc (c : Thread nD τ) ↦[(M.access r).set]{fullShare} f)) from .rfl) $$ H
  icases H' with ⟨%f, %hf, H⟩
  iapply (wp_store 𝒱₀ (c : Thread nD τ) none Set.univ (m := M) (r := r) (Mk := Finset.univ) (S := (M.access r).set) (f := f) (Finset.Subset.refl _)) $$ H
  iintro H
  iapply Hk
  unfold own owns
  iexists _
  isplitr
  rotate_left
  · iexact H
  · ipureintro; exact View.read_write_univ _ _

/-- A store covering a whole buffer. -/
theorem store_whole {α : Type} {Q : α → sProp 𝕄} {cs : CoreSpace} {e : EltTy} {s : Shape} {M : Memref sig .tc cs s e} {v : s.Idx → Elt F e} {r : Rect s}
    {w : r.shape.Idx → Elt F e} {hx : (M.access r).Stores Finset.univ} {hm : (Finset.univ : Finset r.shape.Idx) = Finset.univ ∨ ∀ a, r.stride a = 1}
    {k : PUnit → Prog (TpuEff nD τ sig (Elt F) Λ₀ .tc) α}
    (w' : s.Idx → Elt F e) (hM : M.view.set = Finset.univ) (hw : ∀ f, M.view.read (Elt F) ((M.access r).write (Elt F) f w Finset.univ) = w') :
    own c M v ⊢ iprop((own c M w' -∗ run c (k ⟨⟩) Q) -∗ run c (.op (.store M r w Finset.univ hx hm) k) Q) := by
  iintro H Hk
  ihave H' := (show own c M v ⊢ iprop(∃ f, ⌜M.view.read (Elt F) f = v⌝ ∗ (M.view.loc (c : Thread nD τ) ↦[M.view.set]{fullShare} f)) from .rfl) $$ H
  icases H' with ⟨%f, %hf, H⟩
  iapply (wp_store 𝒱₀ (c : Thread nD τ) none Set.univ (m := M) (r := r) (Mk := Finset.univ) (S := M.view.set) (f := f) (by rw [hM]; exact Finset.subset_univ _)) $$ H
  iintro H
  iapply Hk
  unfold own owns
  iexists _
  isplitr
  rotate_left
  · iexact H
  · ipureintro; exact hw f

end Mem

/-! ## Copies, sends and waits -/

section Xfer
variable {c : Dev nD} (K : Dev nD × Fin 15 → ℕ)

/-- A local copy onto the cell `csem j`: source and destination go, a credit for the cell comes back. -/
theorem copy_own (j : Fin 15) {α : Type} {Q : α → sProp 𝕄} {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) sp (.dma sem) (.here (p := (c : Thread nD τ).2) dst)}
    {k : PUnit → Prog (TpuEff nD τ sig (Elt F) Λ₀ .tc) α} {v v' : s.Idx → Elt F e}
    (hs : (SemLoc.dma sem : SemLoc sig) = csem j) (hN : dst.view.dmaCredit = amt j) (hp : iprop(own c dst v ∗ own c src v) ⊢ pay m c j) :
    iprop(recs m K ∗ own c src v ∗ own c dst v' ∗ dutyTok ER (kcell (c, j)) 0 ())
      ⊢ iprop((cred (tallyAt (kcell (c, j)) () (amt j)) -∗ run c (k ⟨⟩) Q)
          -∗ run c (.op (.enqueueDma src (.here dst) (.dma sem) hsrc hdst hsem) k) Q) := by
  unfold own owns at *
  iintro ⟨#HR, ⟨%fs, %hfs, Hs⟩, ⟨%fd, %hfd, Hd⟩, Ht⟩ Hk
  have hc : kcell (c, j) = ((c : Thread nD τ), SemLoc.dma sem) := by unfold kcell; rw [hs]
  have hI := recs_inv m K c j
  have hRe := recs_reached m K c j
  have ha := amount_cell m c j ()
  have hpl := payload_cell m c j ()
  rw [hc] at hI hRe ha hpl ⊢
  iapply (Rounds.wp_copy_pointsTo 𝒱₀ ER (sched m) (c : Thread nD τ) none (κ := K (c, j)) (r := 0) (d := ()) (fs := fs) (fd := fd)
    (by rw [duties_zero]; exact Finset.mem_singleton_self _) () (amt j) (show dst.view.amount (.dma sem) = amt j from hN) ha
    (by
      rw [hpl]
      refine BIBase.Entails.trans ?_ hp
      iintro ⟨H1, H2⟩
      isplitl [H1]
      · iexists _; isplitr
        rotate_left
        · iexact H1
        · ipureintro; rw [View.read_write_univ]; exact hfs
      · iexists _; isplitr
        rotate_left
        · iexact H2
        · ipureintro; exact hfs)) $$ [Hs Hd Ht]
  · isplitr; · iapply hI; iexact HR
    isplitl [Hs]; · iexact Hs
    isplitl [Hd]; · iexact Hd
    isplitl [Ht]; · iexact Ht
    iapply hRe; iexact HR
  iexact Hk

/-- Remote copy `i`, to the peer: the source and the peer's landing buffer go, with the two duties' tokens; a credit for
    the own send cell comes back, and one payment less is owed. -/
theorem send_at (i : Fin 6) (d : Dev nD) {α : Type} {Q : α → sProp 𝕄} {s : Shape} {e : EltTy} {src : Memref sig .tc .vmem s e} {dst : Memref sig .tc .vmem s e}
    {ss rs : DmaSem sig} {hsc : (show Memref sig (Dev.tc d : Thread nD τ).2.kind .vmem s e from dst).view.ref.isScScratch = false}
    {hsrc : src.view.WordExact} {hdst : dst.view.WordExact}
    {hsem : DmaTarget.Typed (nD := nD) (τ := τ) .vmem (.dma rs) (.remote (Dev.tc d : Thread nD τ) dst (.dma ss) hsc)}
    {k : PUnit → Prog (TpuEff nD τ sig (Elt F) Λ₀ .tc) α} {v : s.Idx → Elt F e}
    (hd : d = peer c) (hss : (SemLoc.dma ss : SemLoc sig) = csem (sj i)) (hrs : (SemLoc.dma rs : SemLoc sig) = csem (rj i))
    (hN : dst.view.dmaCredit = amt (sj i)) (hN' : dst.view.dmaCredit = amt (rj i)) (ho : rj i = oj (5 - i.val))
    (hp : own c src v ⊢ pay m c (sj i)) (hp' : own (peer c) dst v ⊢ pay m (peer c) (rj i)) :
    iprop(recs m K ∗ own c src v ∗ ownAny (F := F) (peer c) dst ∗ ow c (5 - i.val + 1)
        ∗ dutyTok ER (kcell (c, sj i)) 0 () ∗ dutyTok ER (kcell (peer c, rj i)) 0 ())
      ⊢ iprop(((cred (tallyAt (kcell (c, sj i)) () (amt (sj i))) ∗ ow c (5 - i.val)) -∗ run c (k ⟨⟩) Q)
          -∗ run c (.op (.enqueueDma src (.remote (Dev.tc d : Thread nD τ) dst (.dma ss) hsc) (.dma rs) hsrc hdst hsem) k) Q) := by
  subst hd
  unfold ownAny own owns ow at *
  iintro ⟨#HR, ⟨%fs, %hfs, Hs⟩, ⟨%v', %fd, %hfd, Hd⟩, ⟨%W, HO⟩, Ht, Ht'⟩ Hk
  have hc : kcell (c, sj i) = ((c : Thread nD τ), SemLoc.dma ss) := by unfold kcell; rw [hss]
  have hc' : kcell (peer c, rj i) = ((peer c : Thread nD τ), SemLoc.dma rs) := by unfold kcell; rw [hrs]
  have hI := recs_inv m K c (sj i)
  have hRe := recs_reached m K c (sj i)
  have ha := amount_cell m c (sj i) ()
  have hpl := payload_cell m c (sj i) ()
  have hI' := recs_inv m K (peer c) (rj i)
  have hRe' := recs_reached m K (peer c) (rj i)
  have ha' := amount_cell m (peer c) (rj i) ()
  have hpl' := payload_cell m (peer c) (rj i) ()
  have hO : owe c (5 - i.val + 1) = owe c (5 - i.val) + tallyAt (kcell (peer c, rj i)) () (amt (rj i)) := by
    rw [ho]; rfl
  rw [← hN'] at ha' hO
  rw [← hN] at ha ⊢
  rw [hc] at hI hRe ha hpl ⊢
  rw [hc'] at hI' hRe' ha' hpl' hO ⊢
  iapply (Rounds.wp_send_pointsTo 𝒱₀ ER (sched m) (c : Thread nD τ) none (κ₁ := K (c, sj i)) (κ₂ := K (peer c, rj i))
    (r₁ := 0) (r₂ := 0) (d₁ := ()) (d₂ := ()) (c' := (peer c : Thread nD τ)) (fs := fs) (fd := fd)
    (by rw [duties_zero]; exact Finset.mem_singleton_self _) (by rw [duties_zero]; exact Finset.mem_singleton_self _)
    () () dst.view.dmaCredit rfl ha ha' (owe c (5 - i.val)) hO (W := W)
    (by
      rw [hpl]
      refine BIBase.Entails.trans ?_ hp
      iintro H1
      iexists _; isplitr
      rotate_left
      · iexact H1
      · ipureintro; exact hfs)
    (by
      rw [hpl']
      refine BIBase.Entails.trans ?_ hp'
      iintro H1
      iexists _; isplitr
      rotate_left
      · iexact H1
      · ipureintro; rw [View.read_write_univ]; exact hfs)) $$ [Hs Hd HO Ht Ht']
  · isplitr; · iapply hI; iexact HR
    isplitr; · iapply hI'; iexact HR
    isplitl [Hs]; · iexact Hs
    isplitl [Hd]; · iexact Hd
    isplitl [HO]; · iexact HO
    isplitl [Ht]; · iexact Ht
    isplitr; · iapply hRe; iexact HR
    isplitl [Ht']; · iexact Ht'
    iapply hRe'; iexact HR
  iintro ⟨Hc, HO⟩
  iapply Hk
  isplitl [Hc]; · iexact Hc
  iexists W; iexact HO

/-- The same with the cells and the number of payments left named `j`, `j'` and `n`. -/
theorem send_own (i : Fin 6) (j j' : Fin 15) (n : ℕ) {d : Dev nD} {α : Type} {Q : α → sProp 𝕄} {s : Shape} {e : EltTy} {src : Memref sig .tc .vmem s e} {dst : Memref sig .tc .vmem s e}
    {ss rs : DmaSem sig} {hsc : (show Memref sig (Dev.tc d : Thread nD τ).2.kind .vmem s e from dst).view.ref.isScScratch = false}
    {hsrc : src.view.WordExact} {hdst : dst.view.WordExact}
    {hsem : DmaTarget.Typed (nD := nD) (τ := τ) .vmem (.dma rs) (.remote (Dev.tc d : Thread nD τ) dst (.dma ss) hsc)}
    {k : PUnit → Prog (TpuEff nD τ sig (Elt F) Λ₀ .tc) α} {v : s.Idx → Elt F e}
    (hd : d = peer c) (hj : sj i = j) (hj' : rj i = j') (hn : 5 - i.val = n) (hss : (SemLoc.dma ss : SemLoc sig) = csem (sj i)) (hrs : (SemLoc.dma rs : SemLoc sig) = csem (rj i))
    (hN : dst.view.dmaCredit = amt (sj i)) (hN' : dst.view.dmaCredit = amt (rj i)) (ho : rj i = oj (5 - i.val))
    (hp : own c src v ⊢ pay m c (sj i)) (hp' : own (peer c) dst v ⊢ pay m (peer c) (rj i)) :
    iprop(recs m K ∗ own c src v ∗ ownAny (F := F) (peer c) dst ∗ ow c (n + 1)
        ∗ dutyTok ER (kcell (c, j)) 0 () ∗ dutyTok ER (kcell (peer c, j')) 0 ())
      ⊢ iprop(((cred (tallyAt (kcell (c, j)) () (amt j)) ∗ ow c n) -∗ run c (k ⟨⟩) Q)
          -∗ run c (.op (.enqueueDma src (.remote (Dev.tc d : Thread nD τ) dst (.dma ss) hsc) (.dma rs) hsrc hdst hsem) k) Q) := by
  subst hj hj' hn
  exact send_at m K i d hd hss hrs hN hN' ho hp hp'

/-- A wait for all of the cell `csem j`: its payload comes, and its counter, at zero for good. -/
theorem wait_any (j : Fin 15) (n : ℕ) {α : Type} {Q : α → sProp 𝕄} {w : TpuEff nD τ sig (Elt F) Λ₀ .tc PUnit} {sm : SemLoc sig} {k' : ℕ}
    {k : PUnit → Prog (TpuEff nD τ sig (Elt F) Λ₀ .tc) α}
    (hw : ∀ Kt : PUnit → sProp 𝕄, wpE (defs₀ (F := F)) 𝒱₀ (c : Thread nD τ) none Set.univ w Kt = waitSpec (c : Thread nD τ) Set.univ sm k' Kt)
    (hs : sm = csem j) (hN : k' = amt j) (hl : ∀ i < n, lvl (csem j) < lvl (csem (oj i))) :
    iprop(recs m K ∗ levAts L lv ∗ cred (tallyAt (kcell (c, j)) () (amt j)) ∗ ow c n ∗ atPos ER (kcell (c, j)) 0 ∅ 0)
      ⊢ iprop(((ow c n ∗ pay m c j ∗ semVal (kcell (c, j)) 0) -∗ run c (k ⟨⟩) Q) -∗ run c (.op w k) Q) := by
  subst hs hN
  unfold ow
  iintro ⟨#HR, #HL, Hc, ⟨%W, HO⟩, Hat⟩ Hk
  iapply (Rounds.wp_wait_rest_token 𝒱₀ ER (sched m) (c : Thread nD τ) none (κ := K (c, j))
      hw (Set.mem_univ _) () (O := owe c n) (W := W) (R := 0) (m := 0) (T := ∅)
      (by rw [Nat.zero_add]; exact (expect_cell m c j).symm)) $$ [Hc HO Hat]
  · isplitr; · iapply (recs_inv m K c j); iexact HR
    isplitl [Hc]; · iexact Hc
    isplitl [HO]; · iexact HO
    isplitr; · iapply (mayWait c (csem j) n hl); iexact HL
    iexact Hat
  iintro ⟨HO, Hat, -, Hpay⟩
  ihave Hp := (Entails.of_eq (rest_cell m c j)) $$ Hpay
  imod (Rounds.cell_close ER (sched m) (Set.mem_univ (K (c, j))) (fun h => h) (R := 0 + 1) (duties_later m (kcell (c, j)))) $$ [Hat] with Hz
  · isplitr; · iapply (recs_inv m K c j); iexact HR
    iexact Hat
  iapply Hk
  isplitl [HO]; · iexists _; iexact HO
  isplitl [Hp]; · iexact Hp
  iexact Hz

/-- A wait on a copy's semaphore `csem j`, whose payload is `P`. -/
theorem wait_own (j : Fin 15) (n : ℕ) (P : sProp 𝕄) (hP : pay m c j = P) {α : Type} {Q : α → sProp 𝕄} {sp sp' : Space} {s s' : Shape} {e e' : EltTy}
    {src : Memref sig .tc sp s e} {dst : Memref sig .tc sp' s' e'} {sm : DmaSem sig} {h₁ : src.view.WordExact} {h₂ : dst.view.WordExact}
    {k : PUnit → Prog (TpuEff nD τ sig (Elt F) Λ₀ .tc) α}
    (hs : (SemLoc.dma sm : SemLoc sig) = csem j) (hN : dst.view.dmaCredit = amt j) (hl : ∀ i < n, lvl (csem j) < lvl (csem (oj i))) :
    iprop(recs m K ∗ levAts L lv ∗ cred (tallyAt (kcell (c, j)) () (amt j)) ∗ ow c n ∗ atPos ER (kcell (c, j)) 0 ∅ 0)
      ⊢ iprop(((ow c n ∗ P ∗ semVal (kcell (c, j)) 0) -∗ run c (k ⟨⟩) Q) -∗ run c (.op (.waitDma2 sm src dst h₁ h₂) k) Q) := by
  subst hP
  exact wait_any m K j n (wpE_waitDma2_eq 𝒱₀ (c : Thread nD τ) none Set.univ) hs hN hl

end Xfer

/-! ## The two halves of a 256-row buffer -/

section Halves

/-- The two halves, as a family. -/
def half (t : Fin 2) : Rect S256x512 := match t with
  | 0 => h0
  | 1 => h1
theorem half_stride (t : Fin 2) (a) : (half t).stride a = 1 := by fin_cases t <;> rfl

/-- Every index of the 256 rows lies in a half, -/
theorem half_cover (x : S256x512.Idx) : (∃ j, h0.emb j = x) ∨ ∃ j, h1.emb j = x := by
  by_cases h : (x 0).val < 128
  · left
    refine ⟨fun a => ⟨(x a).val, ?_⟩, funext fun a => Fin.ext ?_⟩
    · fin_cases a
      · exact h
      · exact (x 1).isLt
    · rw [Rect.emb_apply]; fin_cases a <;> simp [h0, Rect.unit]
  · right
    refine ⟨fun a => ⟨(x a).val - ![128, 0] a, ?_⟩, funext fun a => Fin.ext ?_⟩
    · fin_cases a
      · have h2 : (x 0).val < 256 := (x 0).isLt
        show (x 0).val - 128 < 128
        omega
      · exact (x 1).isLt
    · rw [Rect.emb_apply]; fin_cases a
      · show 128 + 1 * ((x 0).val - 128) = (x 0).val
        omega
      · show 0 + 1 * ((x 1).val - 0) = (x 1).val
        omega

theorem emb_mem {s : Shape} (r : Rect s) (j : r.shape.Idx) : r.emb j ∈ r.set := by
  rw [← Rect.map_emb_univ]; exact Finset.mem_map_of_mem _ (Finset.mem_univ j)

/-- and in one only. -/
theorem half_disjoint : Disjoint h0.set h1.set :=
  Finset.disjoint_left.mpr fun x hx hx' => by
    rw [← Rect.map_emb_univ, Finset.mem_map] at hx hx'
    obtain ⟨j, -, rfl⟩ := hx
    obtain ⟨j', -, h⟩ := hx'
    have h2 : 128 + 1 * (j' 0).val = 0 + 1 * (j 0).val := congrArg (fun y : S256x512.Idx => (y 0).val) h
    have h3 : (j 0).val < 128 := (j 0).isLt
    omega

theorem halves_disjoint (t t' : Fin 2) (h : t ≠ t') : Disjoint (half t).set (half t').set := by
  match t, t', h with
  | 0, 0, h => exact absurd rfl h
  | 0, 1, _ => exact half_disjoint
  | 1, 0, _ => exact half_disjoint.symm
  | 1, 1, h => exact absurd rfl h

theorem halves_cover : (Finset.univ : Finset (Fin 2)).biUnion (fun t => (half t).set) = Finset.univ :=
  Finset.eq_univ_of_forall fun x => by
    rcases half_cover x with ⟨j, rfl⟩ | ⟨j, rfl⟩
    · exact Finset.mem_biUnion.mpr ⟨0, Finset.mem_univ _, show h0.emb j ∈ h0.set from emb_mem h0 j⟩
    · exact Finset.mem_biUnion.mpr ⟨1, Finset.mem_univ _, show h1.emb j ∈ h1.set from emb_mem h1 j⟩

/-- The contents whose halves are `a` and `b` (`z` is nowhere read). -/
def glue {α : Type} (z : S256x512.Idx → α) (a b : S128x512.Idx → α) : S256x512.Idx → α :=
  h0.overlay (h1.overlay z b) a

theorem glue_up {α : Type} (z : S256x512.Idx → α) (a b : S128x512.Idx → α) : upv (glue z a b) = a := funext fun j => Rect.overlay_emb h0 _ _ j
theorem glue_dn {α : Type} (z : S256x512.Idx → α) (a b : S128x512.Idx → α) : dnv (glue z a b) = b := funext fun j => by
  show glue z a b (h1.emb j) = b j
  unfold glue
  rw [Rect.overlay_of_not_mem, Rect.overlay_emb]
  exact fun h => Finset.disjoint_left.mp half_disjoint h (emb_mem h1 j)

/-- The two halves conjoined. -/
theorem halves_eq {e : EltTy} (c : Dev nD) (M : Memref sig .tc .vmem S256x512 e) (v : S256x512.Idx → Elt F e) :
    (bigSep Finset.univ fun t : Fin 2 => (owns (Ix := Unit) (Name := ℕ) (U := UU) (Lvl := ℕ) (c : Thread nD τ) (M.slice (half t) (half_stride t)) fullShare (fun j => v ((half t).emb j)) : sProp 𝕄))
      = iprop(own c (up M) (upv v) ∗ own c (dn M) (dnv v)) :=
  bigSep_univ_eq_bigSepL [(0 : Fin 2), (1 : Fin 2)] (by decide) (by decide) _

/-- A 256-row buffer is its two halves, -/
theorem split {e : EltTy} (c : Dev nD) (M : Memref sig .tc .vmem S256x512 e) (v : S256x512.Idx → Elt F e) :
    own c M v ⊢ iprop(own c (up M) (upv v) ∗ own c (dn M) (dnv v)) := by
  rw [← halves_eq]
  exact owns_rects (c : Thread nD τ) M fullShare half half_stride halves_disjoint halves_cover v

/-- and back. -/
theorem join {e : EltTy} (c : Dev nD) (M : Memref sig .tc .vmem S256x512 e) (v : S256x512.Idx → Elt F e) :
    iprop(own c (up M) (upv v) ∗ own c (dn M) (dnv v)) ⊢ own c M v := by
  rw [← halves_eq]
  exact owns_of_rects (c : Thread nD τ) M fullShare half half_stride halves_disjoint halves_cover v

/-- A 256-row buffer at some contents is its halves at some contents, -/
theorem split_any {e : EltTy} (c : Dev nD) (M : Memref sig .tc .vmem S256x512 e) :
    ownAny (F := F) c M ⊢ iprop(ownAny (F := F) c (up M) ∗ ownAny (F := F) c (dn M)) := by
  iintro ⟨%v, H⟩
  ihave H' := (split c M v) $$ H
  icases H' with ⟨Hu, Hd⟩
  isplitl [Hu]
  · iexists _; iexact Hu
  · iexists _; iexact Hd

/-- and two halves at any contents make the buffer. -/
theorem join_glue {e : EltTy} (c : Dev nD) (M : Memref sig .tc .vmem S256x512 e) (z : S256x512.Idx → Elt F e) (a b : S128x512.Idx → Elt F e) :
    iprop(own c (up M) a ∗ own c (dn M) b) ⊢ own c M (glue z a b) := by
  have h := join c M (glue z a b)
  rw [glue_up, glue_dn] at h
  exact h

end Halves

end Cert.MoeRun

end
-- ==== Proof.Part1.lean ====
/-
# The body's first part: the weight copies start, the handshake, the tokens narrowed
-/
module

public import proofs.«01_k».proof.Proof.Rules

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-- A device's four landing buffers (two of them as their halves), at any contents. -/
def landing (c : Dev nD) : sProp 𝕄 :=
  iprop(ownAny (F := F) c (up xrM) ∗ ownAny (F := F) c (dn xrM) ∗ ownAny (F := F) c rrM ∗ ownAny (F := F) c wrM
      ∗ ownAny (F := F) c (up prM) ∗ ownAny (F := F) c (dn prM))

theorem pay_bar (c : Dev nD) : pay m c 0 = landing (peer c) := rfl
theorem pay_bar_peer (c : Dev nD) : pay m (peer c) 0 = landing c := by rw [pay_bar, peer_peer]

/-- The handshake's signal: the own landing buffers go to the peer, and one payment less is owed. -/
theorem signal_own {α : Type} {Q : α → sProp 𝕄} (c d : Dev nD) {k : PUnit → Prog (TpuEff nD τ sig (Elt F) Λ₀ .tc) α} {sem : Sem sig} {n : ℕ}
    (hd : d = peer c) (hs : sem = barS) (hn : n = 1) :
    iprop(recs m K ∗ ow c 7 ∗ dutyTok ER (kcell (peer c, 0)) 0 () ∗ landing c)
      ⊢ iprop((ow c 6 -∗ run c (k ⟨⟩) Q) -∗ run c (.op (.semSignal (d : Thread nD τ) sem n) k) Q) := by
  subst hd hs hn
  unfold ow
  iintro ⟨#HR, ⟨%W, HO⟩, Ht, Hl⟩ Hk
  iapply (Rounds.wp_signal 𝒱₀ ER (sched m) (c : Thread nD τ) none (dst := (peer c : Thread nD τ)) (κ := K (peer c, 0)) (r := 0)
      (d := ()) (by rw [duties_zero]; exact Finset.mem_singleton_self _) (amount_cell m (peer c) 0 ()) () (owe c 6) rfl)
    $$ [HO Ht Hl]
  · isplitr; · iapply (recs_inv m K (peer c) 0); iexact HR
    isplitl [HO]; · iexact HO
    isplitl [Ht]; · iexact Ht
    isplitl [Hl]
    · have e : (sched (F := F) m).payload ((peer c : Thread nD τ), SemLoc.reg barS) 0 () = landing c := (payload_cell m (peer c) 0 ()).trans (pay_bar_peer m c)
      rw [e]; iexact Hl
    iapply (recs_reached m K (peer c) 0); iexact HR
  iintro HO
  iapply Hk
  iexists W; iexact HO

set_option maxHeartbeats 1600000 in
/-- The first part: both weight copies start, the peers exchange their landing buffers, the tokens are narrowed. -/
theorem part1 (c : Dev nD) (Q : (Σ' (d0 : Dev nD) (v2 : BitVec 32) (v8 : BitVec 32) (v9 : BitVec 32) (v10 : BitVec 1) (v28 : BitVec 32), BitVec 32) → sProp 𝕄) :
    iprop(recs m K ∗ levAts L lv ∗ own c xM (X m c) ∗ own c w1H (W1 m c) ∗ own c w2H (W2 m c) ∗ ownAny (F := F) c w1M ∗ ownAny (F := F) c w2M
        ∗ ownAny (F := F) c xsM ∗ landing (F := F) c ∗ ow c 7 ∗ cred (tallyAt (kcell (c, 0)) () (amt 0)) ∗ atPos ER (kcell (c, 0)) 0 ∅ 0
        ∗ dutyTok ER (kcell (peer c, 0)) 0 () ∗ dutyTok ER (kcell (c, 1)) 0 () ∗ dutyTok ER (kcell (c, 2)) 0 ()
        ∗ (∀ v2 : BitVec 32, ∀ v8 : BitVec 32, ∀ v9 : BitVec 32, ∀ v28 : BitVec 32, ∀ w : BitVec 32, (own c xM (X m c) ∗ own c xsM (xS m c) ∗ cred (tallyAt (kcell (c, 1)) () (amt 1))
            ∗ cred (tallyAt (kcell (c, 2)) () (amt 2)) ∗ landing (F := F) (peer c) ∗ semVal (kcell (c, 0)) 0 ∗ ow c 6)
            -∗ Q ⟨c, v2, v8, v9, lo c, v28, w⟩))
      ⊢ run c (onBufs (k0_part1 (F := F))) Q := by
  simp only [k0_part1_eq_skeleton]; unfold onBufs k0_part1_skel
  simp only [semSignalWord, semWaitWord, Prog.lift, Prog.bind_op, Prog.bind_ret, Prog.pure_eq_ret, wp_deviceId]
  iintro ⟨#HR, #HL, Hx, Hw1, Hw2, ⟨%u1, Hm1⟩, ⟨%u2, Hm2⟩, ⟨%u3, Hxs⟩, Hl, HO, Hcb, Hab, Htb, Ht1, Ht2, HQ⟩
  iapply (copy_own m K 1 (v := W1 m c) (v' := u1) (by decide) rfl (.refl)) $$ [Hw1 Hm1 Ht1]
  · isplitr; · iexact HR
    isplitl [Hw1]; · iexact Hw1
    isplitl [Hm1] <;> iassumption
  iintro Hc1
  iapply (copy_own m K 2 (v := W2 m c) (v' := u2) (by decide) rfl (.refl)) $$ [Hw2 Hm2 Ht2]
  · isplitr; · iexact HR
    isplitl [Hw2]; · iexact Hw2
    isplitl [Hm2] <;> iassumption
  iintro Hc2
  iapply (signal_own m K c _ (dev1_eq c) rfl (by decide)) $$ [HO Htb Hl]
  · isplitr; · iexact HR
    isplitl [HO]; · iexact HO
    isplitl [Htb] <;> iassumption
  iintro HO
  iapply (wait_any m K 0 6 (wpE_semWait_eq 𝒱₀ (c : Thread nD τ) none Set.univ) rfl (by decide) (by decide)) $$ [HO Hcb Hab]
  · isplitr; · iexact HR
    isplitr; · iexact HL
    isplitl [Hcb]; · iexact Hcb
    isplitl [HO] <;> iassumption
  iintro ⟨HO, Hl, Hz⟩
  iapply (load_whole (X m c) (View.set_whole _) (fun f hf => (Memref.readAt_unit_zero (Elt F) cc0_stg0_0 hz2 _ f).trans hf)) $$ Hx
  iintro Hx
  iapply (load_whole u3 (View.set_whole _) (fun f hf => (Memref.readAt_unit_zero (Elt F) cc0_scratch2 hz2 _ f).trans hf)) $$ Hxs
  iintro Hxs
  iapply (store_whole (M := xsM) (r := Rect.unit (s := S256x512) ![0, 0] S256x512.size inb_S256x512_S256x512_0_0) (w := xS m c) (xS m c) (View.set_whole _) (fun f => (View.read_whole _ _).trans (Memref.write_access_unit_zero_univ (Elt F) cc0_scratch2 hz2 inb_S256x512_S256x512_0_0 f (xS m c)))) $$ Hxs
  iintro Hxs
  ihave Hl := (Entails.of_eq (pay_bar m c)) $$ Hl
  unfold lo; iapply run_ret
  iapply HQ
  isplitl [Hx]; · iexact Hx
  isplitl [Hxs]; · iexact Hxs
  isplitl [Hc1]; · iexact Hc1
  isplitl [Hc2]; · iexact Hc2
  isplitl [Hl]; · iexact Hl
  isplitl [Hz] <;> iassumption

end Cert.MoeRun

end
-- ==== Proof.Part2.lean ====
/-
# The body's middle parts: tokens, router columns and routing weights are exchanged, the experts' weights arrive
-/
module

public import proofs.«01_k».proof.Proof.Part1

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

set_option maxHeartbeats 1600000

/-- The second part: both halves of the narrowed tokens are sent, the router columns transposed. -/
theorem part2 (c : Dev nD) (v2 v8 v9 v28 w : BitVec 32) (Q : (Σ' (v59 : BitVec 32), BitVec 32) → sProp 𝕄) :
    iprop(recs m K ∗ own c xsM (xS m c) ∗ own c rM (R m c) ∗ ownAny (F := F) c rsM
        ∗ ownAny (F := F) (peer c) (up xrM) ∗ ownAny (F := F) (peer c) (dn xrM) ∗ ow c 6
        ∗ dutyTok ER (kcell (c, 3)) 0 () ∗ dutyTok ER (kcell (peer c, 9)) 0 ()
        ∗ dutyTok ER (kcell (c, 4)) 0 () ∗ dutyTok ER (kcell (peer c, 10)) 0 ()
        ∗ (∀ v59 : BitVec 32, ∀ v60 : BitVec 32, (own c rM (R m c) ∗ own c rsM (rS m c)
            ∗ cred (tallyAt (kcell (c, 3)) () (amt 3)) ∗ cred (tallyAt (kcell (c, 4)) () (amt 4)) ∗ ow c 4)
            -∗ Q ⟨v59, v60⟩))
      ⊢ run c (onBufs (k0_part2 (F := F)) c v2 v8 v9 v28 w) Q := by
  simp only [k0_part2_eq_skeleton]; unfold onBufs k0_part2_skel
  simp only [Prog.lift, Prog.bind_op, Prog.bind_ret, Prog.pure_eq_ret]
  iintro ⟨#HR, Hxs, Hr, ⟨%u, Hrs⟩, Hu, Hd, HO, Ht3, Ht9, Ht4, Ht10, HQ⟩
  ihave Hs := (split c xsM (xS m c)) $$ Hxs
  icases Hs with ⟨Hxu, Hxd⟩
  iapply (send_own m K 0 3 9 5 (v := upv (xS m c)) (dev2_eq c) rfl rfl rfl (by decide) (by decide) rfl rfl rfl (.refl) (.of_eq (pay_recv0 m c).symm)) $$ [Hxu Hu HO Ht3 Ht9]
  · iframe #; iframe
  iintro ⟨Hc3, HO⟩
  iapply (send_own m K 1 4 10 4 (v := dnv (xS m c)) (dev3_eq c) rfl rfl rfl (by decide) (by decide) rfl rfl rfl (.refl) (.of_eq (pay_recv1 m c).symm)) $$ [Hxd Hd HO Ht4 Ht10]
  · iframe #; iframe
  iintro ⟨Hc4, HO⟩
  iapply (load_whole (R m c) (View.set_whole _) (fun f hf => (Memref.readAt_unit_zero (Elt F) cc0_stg1_0 hz2 _ f).trans hf)) $$ Hr
  iintro Hr
  iapply (load_whole u (View.set_whole _) (fun f hf => (Memref.readAt_unit_zero (Elt F) cc0_scratch4 hz2 _ f).trans hf)) $$ Hrs
  iintro Hrs
  iapply (store_whole (M := rsM) (r := Rect.unit (s := S2x512) ![0, 0] S2x512.size inb_S2x512_S2x512_0_0) (w := rS m c) (rS m c) (View.set_whole _) (fun f => (View.read_whole _ _).trans (Memref.write_access_unit_zero_univ (Elt F) cc0_scratch4 hz2 inb_S2x512_S2x512_0_0 f (rS m c)))) $$ Hrs
  iintro Hrs
  iapply run_ret
  iapply HQ
  iframe

/-- The third part: the router columns are sent; both gates' halves are in and the gates' pieces are computed. -/
theorem part3 (c : Dev nD) (v2 v8 v9 w w' : BitVec 32)
    (Q : (Σ' (v89 : FVec F S256x4 .f32) (v91 : FVec F S256x1 .f32) (v93 : IVec S256x4 1), FVec F S256x4 .f32) → sProp 𝕄) :
    iprop(recs m K ∗ levAts L lv ∗ own c xM (X m c) ∗ own c rM (R m c) ∗ own c rsM (rS m c) ∗ ownAny (F := F) (peer c) rrM ∗ ow c 4
        ∗ dutyTok ER (kcell (c, 5)) 0 () ∗ dutyTok ER (kcell (peer c, 11)) 0 ()
        ∗ cred (tallyAt (kcell (c, 11)) () (amt 11)) ∗ atPos ER (kcell (c, 5)) 0 ∅ 0 ∗ atPos ER (kcell (c, 11)) 0 ∅ 0
        ∗ ((own c xM (X m c) ∗ own c rM (R m c) ∗ own c rsM (rS m c) ∗ own c rrM (rS m (peer c))
            ∗ semVal (kcell (c, 5)) 0 ∗ semVal (kcell (c, 11)) 0 ∗ ow c 3)
            -∗ Q ⟨gt m c, gmax m c, gtop m c, grest m c⟩))
      ⊢ run c (onBufs (k0_part3 (F := F)) c v2 v8 v9 (lo c) w w') Q := by
  simp only [k0_part3_eq_skeleton]; unfold onBufs k0_part3_skel
  simp only [Prog.lift, Prog.bind_op, Prog.bind_ret, Prog.pure_eq_ret]
  iintro ⟨#HR, #HL, Hx, Hr, Hrs, Hp, HO, Ht5, Ht11, Hc11, Ha5, Ha11, HQ⟩
  iapply (send_own m K 2 5 11 3 (v := rS m c) (dev4_eq c) rfl rfl rfl (by decide) (by decide) rfl rfl rfl (.refl) (.of_eq (pay_recv2 m c).symm)) $$ [Hrs Hp HO Ht5 Ht11]
  · iframe #; iframe
  iintro ⟨Hc5, HO⟩
  iapply (load_whole (X m c) (View.set_whole _) (fun f hf => (Memref.readAt_unit_zero (Elt F) cc0_stg0_0 hz2 _ f).trans hf)) $$ Hx
  iintro Hx
  iapply (load_whole (R m c) (View.set_whole _) (fun f hf => (Memref.readAt_unit_zero (Elt F) cc0_stg1_0 hz2 _ f).trans hf)) $$ Hr
  iintro Hr
  iapply (wait_own m K 5 3 (own c rsM (rS m c)) rfl (by decide) (by rfl) (by decide)) $$ [Hc5 HO Ha5]
  · iframe #; iframe
  iintro ⟨HO, Hrs, Hz5⟩
  iapply (wait_own m K 11 3 (own c rrM (rS m (peer c))) rfl (by decide) (by rfl) (by decide)) $$ [Hc11 HO Ha11]
  · iframe #; iframe
  iintro ⟨HO, Hrr, Hz11⟩
  iapply (load_whole (X m c) (View.set_whole _) (fun f hf => (Memref.readAt_unit_zero (Elt F) cc0_stg0_0 hz2 _ f).trans hf)) $$ Hx
  iintro Hx
  iapply (load_whole (rS m (peer c)) (View.set_whole _) (fun f hf => (Memref.readAt_unit_zero (Elt F) cc0_scratch5 hz2 _ f).trans hf)) $$ Hrr
  iintro Hrr
  iapply run_ret
  unfold gt gmax gtop grest
  iapply HQ
  iframe

/-- The fourth part: the routing weights of the peer's experts are sent; the expert weights are in. -/
theorem part4 (c : Dev nD) (v2 v8 v9 : BitVec 32) (Q : (Σ' (v112 : FVec F S256x2 .f32), FVec F S512x1024 .f32) → sProp 𝕄) :
    iprop(recs m K ∗ levAts L lv ∗ ownAny (F := F) c wsM ∗ ownAny (F := F) (peer c) wrM ∗ ow c 3
        ∗ dutyTok ER (kcell (c, 6)) 0 () ∗ dutyTok ER (kcell (peer c, 12)) 0 ()
        ∗ cred (tallyAt (kcell (c, 1)) () (amt 1)) ∗ atPos ER (kcell (c, 1)) 0 ∅ 0
        ∗ cred (tallyAt (kcell (c, 2)) () (amt 2)) ∗ atPos ER (kcell (c, 2)) 0 ∅ 0
        ∗ ((own c w1M (W1 m c) ∗ own c w1H (W1 m c) ∗ own c w2M (W2 m c) ∗ own c w2H (W2 m c)
            ∗ cred (tallyAt (kcell (c, 6)) () (amt 6)) ∗ semVal (kcell (c, 1)) 0 ∗ semVal (kcell (c, 2)) 0 ∗ ow c 2)
            -∗ Q ⟨wOwn m c, k0_pay10 (w1M.view.readAt (Elt F) (e1 0 inb_S2x512x1024_S1x512x1024_0_0_0).toLoadRect (W1 m c))⟩))
      ⊢ run c (onBufs (k0_part4 (F := F)) c v2 v8 v9 (lo c) (gt m c) (gmax m c) (gtop m c) (grest m c)) Q := by
  simp only [k0_part4_eq_skeleton]; unfold onBufs k0_part4_skel
  simp only [Prog.lift, Prog.bind_op, Prog.bind_ret, Prog.pure_eq_ret]
  iintro ⟨#HR, #HL, ⟨%u, Hws⟩, Hp, HO, Ht6, Ht12, Hc1, Ha1, Hc2, Ha2, HQ⟩
  iapply (load_whole u (View.set_whole _) (fun f hf => (Memref.readAt_unit_zero (Elt F) cc0_scratch6 hz2 _ f).trans hf)) $$ Hws
  iintro Hws
  iapply (store_whole (M := wsM) (r := Rect.unit (s := S2x256) ![0, 0] S2x256.size inb_S2x256_S2x256_0_0) (w := wS m c) (wS m c) (View.set_whole _) (fun f => (View.read_whole _ _).trans (Memref.write_access_unit_zero_univ (Elt F) cc0_scratch6 hz2 inb_S2x256_S2x256_0_0 f (wS m c)))) $$ Hws
  iintro Hws
  iapply (send_own m K 3 6 12 2 (v := wS m c) (dev5_eq c) rfl rfl rfl (by decide) (by decide) rfl rfl rfl (.refl) (.of_eq (pay_recv3 m c).symm)) $$ [Hws Hp HO Ht6 Ht12]
  · iframe #; iframe
  iintro ⟨Hc6, HO⟩
  iapply (wait_own m K 1 2 iprop(own c w1M (W1 m c) ∗ own c w1H (W1 m c)) rfl (by decide) (by rfl) (by decide)) $$ [Hc1 HO Ha1]
  · iframe #; iframe
  iintro ⟨HO, ⟨Hm1, Hw1⟩, Hz1⟩
  iapply (wait_own m K 2 2 iprop(own c w2M (W2 m c) ∗ own c w2H (W2 m c)) rfl (by decide) (by rfl) (by decide)) $$ [Hc2 HO Ha2]
  · iframe #; iframe
  iintro ⟨HO, ⟨Hm2, Hw2⟩, Hz2⟩
  iapply (load_whole (v := W1 m c) _ (View.set_whole _) (fun f hf => congrArg _ ((View.read_whole _ _).symm.trans hf))) $$ Hm1
  iintro Hm1
  iapply run_ret
  unfold wOwn
  iapply HQ
  iframe

/-- The fifth part: the expert weights are narrowed; the routing weights of the peer's tokens and the first half's sending are awaited. -/
theorem part5 (c : Dev nD) (v2 v8 v9 : BitVec 32)
    (Q : (Σ' (v136 : FVec F S512x1024 .bf16) (v139 : FVec F S512x1024 .bf16) (v142 : FVec F S1024x512 .bf16) (v145 : FVec F S1024x512 .bf16) (v161 : BitVec 32), BitVec 32) → sProp 𝕄) :
    iprop(recs m K ∗ levAts L lv ∗ own c w1M (W1 m c) ∗ own c w2M (W2 m c) ∗ ow c 2
        ∗ cred (tallyAt (kcell (c, 6)) () (amt 6)) ∗ atPos ER (kcell (c, 6)) 0 ∅ 0
        ∗ cred (tallyAt (kcell (c, 12)) () (amt 12)) ∗ atPos ER (kcell (c, 12)) 0 ∅ 0
        ∗ cred (tallyAt (kcell (c, 3)) () (amt 3)) ∗ atPos ER (kcell (c, 3)) 0 ∅ 0
        ∗ (∀ v161 : BitVec 32, ∀ v162 : BitVec 32, (own c w1M (W1 m c) ∗ own c w2M (W2 m c) ∗ own c wsM (wS m c) ∗ own c wrM (wS m (peer c))
            ∗ own c (up xsM) (upv (xS m c)) ∗ semVal (kcell (c, 6)) 0 ∗ semVal (kcell (c, 12)) 0 ∗ semVal (kcell (c, 3)) 0 ∗ ow c 2)
            -∗ Q ⟨w1a m c, w1b m c, w2a m c, w2b m c, v161, v162⟩))
      ⊢ run c (onBufs (k0_part5 (F := F)) v2 v8 v9 (k0_pay10 (w1M.view.readAt (Elt F) (e1 0 inb_S2x512x1024_S1x512x1024_0_0_0).toLoadRect (W1 m c)))) Q := by
  simp only [k0_part5_eq_skeleton]; unfold onBufs k0_part5_skel
  simp only [Prog.lift, Prog.bind_op, Prog.bind_ret, Prog.pure_eq_ret]
  iintro ⟨#HR, #HL, Hm1, Hm2, HO, Hc6, Ha6, Hc12, Ha12, Hc3, Ha3, HQ⟩
  iapply (load_whole (v := W1 m c) _ (View.set_whole _) (fun f hf => congrArg _ ((View.read_whole _ _).symm.trans hf))) $$ Hm1
  iintro Hm1
  iapply (load_whole (v := W2 m c) _ (View.set_whole _) (fun f hf => congrArg _ ((View.read_whole _ _).symm.trans hf))) $$ Hm2
  iintro Hm2
  iapply (load_whole (v := W2 m c) _ (View.set_whole _) (fun f hf => congrArg _ ((View.read_whole _ _).symm.trans hf))) $$ Hm2
  iintro Hm2
  iapply (wait_own m K 6 2 (own c wsM (wS m c)) rfl (by decide) (by rfl) (by decide)) $$ [Hc6 HO Ha6]
  · iframe #; iframe
  iintro ⟨HO, Hws, Hz6⟩
  iapply (wait_own m K 12 2 (own c wrM (wS m (peer c))) rfl (by decide) (by rfl) (by decide)) $$ [Hc12 HO Ha12]
  · iframe #; iframe
  iintro ⟨HO, Hwr, Hz12⟩
  iapply (wait_own m K 3 2 (own c (up xsM) (upv (xS m c))) rfl (by decide) (by rfl) (by decide)) $$ [Hc3 HO Ha3]
  · iframe #; iframe
  iintro ⟨HO, Hxu, Hz3⟩
  iapply run_ret
  unfold w1a w1b w2a w2b
  iapply HQ
  iframe

end Cert.MoeRun

end
-- ==== Proof.Part6.lean ====
/-
# The body's last parts: the peer's tokens through the own experts, the own tokens, the sum
-/
module

public import proofs.«01_k».proof.Proof.Part2

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

set_option maxHeartbeats 1600000

/-- The sixth part: the upper half of the peer's tokens arrives and goes through the own experts. -/
theorem part6 (c : Dev nD) (v2 v8 v161 v162 : BitVec 32) (Q : (Σ' (v196 : BitVec 32), BitVec 32) → sProp 𝕄) :
    iprop(recs m K ∗ levAts L lv ∗ own c wrM (wS m (peer c)) ∗ ownAny (F := F) c (up psM) ∗ ow c 2
        ∗ cred (tallyAt (kcell (c, 9)) () (amt 9)) ∗ atPos ER (kcell (c, 9)) 0 ∅ 0
        ∗ (∀ v196 : BitVec 32, ∀ w : BitVec 32, (own c wrM (wS m (peer c)) ∗ own c (up xrM) (upv (xS m (peer c))) ∗ own c (up psM) (pA m c)
            ∗ semVal (kcell (c, 9)) 0 ∗ ow c 2)
            -∗ Q ⟨v196, w⟩))
      ⊢ run c (onBufs (k0_part6 (F := F)) v2 v8 (w1a m c) (w1b m c) (w2a m c) (w2b m c) v161 v162) Q := by
  simp only [k0_part6_eq_skeleton]; unfold onBufs k0_part6_skel
  simp only [Prog.lift, Prog.bind_op, Prog.bind_ret, Prog.pure_eq_ret]
  iintro ⟨#HR, #HL, Hwr, ⟨%u, Hps⟩, HO, Hc9, Ha9, HQ⟩
  iapply (wait_own m K 9 2 (own c (up xrM) (upv (xS m (peer c)))) rfl (by decide) (by rfl) (by decide)) $$ [Hc9 HO Ha9]
  · iframe #; iframe
  iintro ⟨HO, Hxr, Hz9⟩
  iapply (load_whole (v := wS m (peer c)) _ (View.set_whole _) (fun f hf => congrArg _ ((View.read_whole _ _).symm.trans hf))) $$ Hwr
  iintro Hwr
  iapply (load_whole (v := wS m (peer c)) _ (View.set_whole _) (fun f hf => congrArg _ ((View.read_whole _ _).symm.trans hf))) $$ Hwr
  iintro Hwr
  iapply load_slice $$ Hxr
  iintro Hxr
  iapply load_slice $$ Hps
  iintro Hps
  iapply store_slice $$ Hps
  iintro Hps
  iapply run_ret
  unfold pA
  iapply HQ
  iframe

/-- The seventh part: that half's partial result is sent; the lower half of the peer's tokens arrives. -/
theorem part7 (c : Dev nD) (v2 v8 v9 v196 w : BitVec 32) (Q : (Σ' (v223 : FVec F S128x1 .f32), FVec F S128x1 .f32) → sProp 𝕄) :
    iprop(recs m K ∗ levAts L lv ∗ own c wrM (wS m (peer c)) ∗ own c (up psM) (pA m c) ∗ ownAny (F := F) (peer c) (up prM) ∗ ow c 2
        ∗ dutyTok ER (kcell (c, 7)) 0 () ∗ dutyTok ER (kcell (peer c, 13)) 0 ()
        ∗ cred (tallyAt (kcell (c, 4)) () (amt 4)) ∗ atPos ER (kcell (c, 4)) 0 ∅ 0
        ∗ cred (tallyAt (kcell (c, 10)) () (amt 10)) ∗ atPos ER (kcell (c, 10)) 0 ∅ 0
        ∗ ((own c wrM (wS m (peer c)) ∗ own c (dn xsM) (dnv (xS m c)) ∗ own c (dn xrM) (dnv (xS m (peer c)))
            ∗ cred (tallyAt (kcell (c, 7)) () (amt 7)) ∗ semVal (kcell (c, 4)) 0 ∗ semVal (kcell (c, 10)) 0 ∗ ow c 1)
            -∗ Q ⟨k0_pay16 (wrM.view.readAt (Elt F) (q 0 128 inb_S2x256_S1x128_0_128).toLoadRect (wS m (peer c))),
                  k0_pay17 (wrM.view.readAt (Elt F) (q 1 128 inb_S2x256_S1x128_1_128).toLoadRect (wS m (peer c)))⟩))
      ⊢ run c (onBufs (k0_part7 (F := F)) c v2 v8 v9 v196 w) Q := by
  simp only [k0_part7_eq_skeleton]; unfold onBufs k0_part7_skel
  simp only [Prog.lift, Prog.bind_op, Prog.bind_ret, Prog.pure_eq_ret]
  iintro ⟨#HR, #HL, Hwr, Hps, Hp, HO, Ht7, Ht13, Hc4, Ha4, Hc10, Ha10, HQ⟩
  iapply (send_own m K 4 7 13 1 (v := pA m c) (dev6_eq c) rfl rfl rfl (by decide) (by decide) rfl rfl rfl (.refl) (.of_eq (pay_recv4 m c).symm)) $$ [Hps Hp HO Ht7 Ht13]
  · iframe #; iframe
  iintro ⟨Hc7, HO⟩
  iapply (wait_own m K 4 1 (own c (dn xsM) (dnv (xS m c))) rfl (by decide) (by rfl) (by decide)) $$ [Hc4 HO Ha4]
  · iframe #; iframe
  iintro ⟨HO, Hxs, Hz4⟩
  iapply (wait_own m K 10 1 (own c (dn xrM) (dnv (xS m (peer c)))) rfl (by decide) (by rfl) (by decide)) $$ [Hc10 HO Ha10]
  · iframe #; iframe
  iintro ⟨HO, Hxr, Hz10⟩
  iapply (load_whole (v := wS m (peer c)) _ (View.set_whole _) (fun f hf => congrArg _ ((View.read_whole _ _).symm.trans hf))) $$ Hwr
  iintro Hwr
  iapply (load_whole (v := wS m (peer c)) _ (View.set_whole _) (fun f hf => congrArg _ ((View.read_whole _ _).symm.trans hf))) $$ Hwr
  iintro Hwr
  iapply run_ret
  iapply HQ
  iframe

/-- The eighth part: the lower half goes through the own experts and its partial result is sent. -/
theorem part8 (c : Dev nD) (v2 v8 v9 : BitVec 32) (Q : (Σ' (v260 : Vec F S256x512 .bf16), FVec F S256x1 .f32) → sProp 𝕄) :
    iprop(recs m K ∗ own c (dn xrM) (dnv (xS m (peer c))) ∗ ownAny (F := F) c (dn psM) ∗ own c (up xsM) (upv (xS m c)) ∗ own c (dn xsM) (dnv (xS m c))
        ∗ ownAny (F := F) (peer c) (dn prM) ∗ ow c 1
        ∗ dutyTok ER (kcell (c, 8)) 0 () ∗ dutyTok ER (kcell (peer c, 14)) 0 ()
        ∗ ((own c (dn xrM) (dnv (xS m (peer c))) ∗ own c xsM (xS m c) ∗ cred (tallyAt (kcell (c, 8)) () (amt 8)) ∗ ow c 0)
            -∗ Q ⟨xS m c, k0_pay19 (wOwn m c)⟩))
      ⊢ run c (onBufs (k0_part8 (F := F)) c v2 v8 v9 (wOwn m c) (w1a m c) (w1b m c) (w2a m c) (w2b m c)
          (k0_pay16 (wrM.view.readAt (Elt F) (q 0 128 inb_S2x256_S1x128_0_128).toLoadRect (wS m (peer c))))
          (k0_pay17 (wrM.view.readAt (Elt F) (q 1 128 inb_S2x256_S1x128_1_128).toLoadRect (wS m (peer c))))) Q := by
  simp only [k0_part8_eq_skeleton]; unfold onBufs k0_part8_skel
  simp only [Prog.lift, Prog.bind_op, Prog.bind_ret, Prog.pure_eq_ret]
  iintro ⟨#HR, Hxr, ⟨%u, Hps⟩, Hxu, Hxd, Hp, HO, Ht8, Ht14, HQ⟩
  iapply load_slice $$ Hxr
  iintro Hxr
  iapply load_slice $$ Hps
  iintro Hps
  iapply store_slice $$ Hps
  iintro Hps
  iapply (send_own m K 5 8 14 0 (v := pB m c) (dev7_eq c) rfl rfl rfl (by decide) (by decide) rfl rfl rfl (.refl) (.of_eq (pay_recv5 m c).symm)) $$ [Hps Hp HO Ht8 Ht14]
  · iframe #; unfold pB; iframe
  iintro ⟨Hc8, HO⟩
  ihave Hxs := (join c xsM (xS m c)) $$ [Hxu Hxd]
  · iframe
  iapply (load_whole (xS m c) (View.set_whole _) (fun f hf => (Memref.readAt_unit_zero (Elt F) cc0_scratch2 hz2 _ f).trans hf)) $$ Hxs
  iintro Hxs
  iapply run_ret
  iapply HQ
  iframe

/-- The ninth part: the own tokens through the own experts; the upper half's exchange of partial results is complete. -/
theorem part9 (c : Dev nD) (v2 v8 v9 : BitVec 32) (Q : (Σ' (v279 : FVec F S256x512 .f32), FVec F S128x512 .f32) → sProp 𝕄) :
    iprop(recs m K ∗ levAts L lv ∗ ow c 0
        ∗ cred (tallyAt (kcell (c, 7)) () (amt 7)) ∗ atPos ER (kcell (c, 7)) 0 ∅ 0
        ∗ cred (tallyAt (kcell (c, 13)) () (amt 13)) ∗ atPos ER (kcell (c, 13)) 0 ∅ 0
        ∗ ((own c (up psM) (pA m c) ∗ own c (up prM) (pA m (peer c)) ∗ semVal (kcell (c, 7)) 0 ∗ semVal (kcell (c, 13)) 0 ∗ ow c 0)
            -∗ Q ⟨k0_pay20 (wOwn m c) (w1a m c) (w1b m c) (w2a m c) (w2b m c) (xS m c) (k0_pay19 (wOwn m c)),
                  k0_pay21 (wOwn m c) (w1a m c) (w1b m c) (w2a m c) (w2b m c) (xS m c) (k0_pay19 (wOwn m c))⟩))
      ⊢ run c (onBufs (k0_part9 (F := F)) v2 v8 v9 (wOwn m c) (w1a m c) (w1b m c) (w2a m c) (w2b m c) (xS m c) (k0_pay19 (wOwn m c))) Q := by
  simp only [k0_part9_eq_skeleton]; unfold onBufs k0_part9_skel
  simp only [Prog.lift, Prog.bind_op, Prog.bind_ret, Prog.pure_eq_ret]
  iintro ⟨#HR, #HL, HO, Hc7, Ha7, Hc13, Ha13, HQ⟩
  iapply (wait_own m K 7 0 (own c (up psM) (pA m c)) rfl (by decide) (by rfl) (by decide)) $$ [Hc7 HO Ha7]
  · iframe #; iframe
  iintro ⟨HO, Hps, Hz7⟩
  iapply (wait_own m K 13 0 (own c (up prM) (pA m (peer c))) rfl (by decide) (by rfl) (by decide)) $$ [Hc13 HO Ha13]
  · iframe #; iframe
  iintro ⟨HO, Hpr, Hz13⟩
  iapply run_ret
  iapply HQ
  iframe

end Cert.MoeRun

end
-- ==== Proof.Body.lean ====
/-
# The body: the parts in order, from a device's start to its end
-/
module

public import proofs.«01_k».proof.Proof.Part6

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 15 → ℕ)

/-! ## What a device starts from and ends with -/

/-- Fifteen conjuncts one by one. -/
theorem bigSep_fin15 (Φ : Fin 15 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

/-- The cell a device pays as its `j`-th: the barrier and the receives are its peer's, the rest its own. -/
def paid (ck : Dev nD × Fin 15) : Dev nD × Fin 15 := (if ck.2.val = 0 ∨ 9 ≤ ck.2.val then peer ck.1 else ck.1, ck.2)

theorem paid_paid (ck : Dev nD × Fin 15) : paid (paid ck) = ck := by
  obtain ⟨c, j⟩ := ck
  unfold paid
  by_cases h : j.val = 0 ∨ 9 ≤ j.val
  · simp only [h, if_true, peer_peer]
  · simp only [h, if_false]

/-- The same, as a permutation of the cells. -/
def paidEquiv : (Dev nD × Fin 15) ≃ (Dev nD × Fin 15) := ⟨paid, paid, paid_paid, paid_paid⟩

/-- The exchange's share of a device: the invariants, its positions, the tokens of what it pays. -/
def ghost (c : Dev nD) : sProp 𝕄 :=
  iprop(recs m K ∗ (bigSep Finset.univ fun j : Fin 15 => atPos ER (kcell (c, j)) 0 ∅ 0)
    ∗ bigSep Finset.univ fun j : Fin 15 => dutyTok ER (kcell (paid (c, j))) 0 ())

/-- The units due to a device's barrier and receive cells. -/
def due (c : Dev nD) : sProp 𝕄 :=
  bigSep Finset.univ fun n : Fin 7 => cred (tallyAt (kcell (c, oj n.val)) () (amt (oj n.val)))

theorem due_eq (c : Dev nD) : (due c : sProp 𝕄) = iprop(cred (tallyAt (kcell (c, 14)) () (amt 14)) ∗ cred (tallyAt (kcell (c, 13)) () (amt 13))
    ∗ cred (tallyAt (kcell (c, 12)) () (amt 12)) ∗ cred (tallyAt (kcell (c, 11)) () (amt 11)) ∗ cred (tallyAt (kcell (c, 10)) () (amt 10))
    ∗ cred (tallyAt (kcell (c, 9)) () (amt 9)) ∗ cred (tallyAt (kcell (c, 0)) () (amt 0))) :=
  bigSep_univ_eq_bigSepL [0, 1, 2, 3, 4, 5, 6] (by decide) (by decide) _

theorem toks_eq (c : Dev nD) : (bigSep Finset.univ fun j : Fin 15 => (dutyTok ER (kcell (paid (c, j))) 0 () : sProp 𝕄))
    = iprop(dutyTok ER (kcell (peer c, 0)) 0 () ∗ dutyTok ER (kcell (c, 1)) 0 () ∗ dutyTok ER (kcell (c, 2)) 0 ()
      ∗ dutyTok ER (kcell (c, 3)) 0 () ∗ dutyTok ER (kcell (c, 4)) 0 () ∗ dutyTok ER (kcell (c, 5)) 0 ()
      ∗ dutyTok ER (kcell (c, 6)) 0 () ∗ dutyTok ER (kcell (c, 7)) 0 () ∗ dutyTok ER (kcell (c, 8)) 0 ()
      ∗ dutyTok ER (kcell (peer c, 9)) 0 () ∗ dutyTok ER (kcell (peer c, 10)) 0 () ∗ dutyTok ER (kcell (peer c, 11)) 0 ()
      ∗ dutyTok ER (kcell (peer c, 12)) 0 () ∗ dutyTok ER (kcell (peer c, 13)) 0 () ∗ dutyTok ER (kcell (peer c, 14)) 0 ()) := by
  rw [bigSep_fin15]; rfl

/-- The ten scratch buffers, at any contents. -/
def scratch (c : Dev nD) : sProp 𝕄 :=
  iprop(ownAny (F := F) c w1M ∗ ownAny (F := F) c w2M ∗ ownAny (F := F) c xsM ∗ ownAny (F := F) c xrM ∗ ownAny (F := F) c rsM ∗ ownAny (F := F) c rrM
    ∗ ownAny (F := F) c wsM ∗ ownAny (F := F) c wrM ∗ ownAny (F := F) c psM ∗ ownAny (F := F) c prM)

/-- All fifteen counters at zero. -/
def zeros (c : Dev nD) : sProp 𝕄 := bigSep Finset.univ fun j : Fin 15 => semVal (kcell (c, j)) 0

/-- The device's result. -/
def outAt (c : Dev nD) : FVec F S256x512 .f32 := glue (X m c) (oA m c) (oB m c)

set_option maxHeartbeats 6400000 in
/-- The body on device `c`, from its start to its end: the result buffer holds `outAt`, every counter is at zero, nothing is owed. -/
theorem body (c : Dev nD) (Q : PUnit → sProp 𝕄) :
    iprop(ghost m K c ∗ levAts L lv ∗ due c ∗ own c w1H (W1 m c) ∗ own c w2H (W2 m c) ∗ scratch (F := F) c ∗ ow c 7
        ∗ own c xM (X m c) ∗ own c rM (R m c) ∗ ownAny (F := F) c oM
        ∗ ((scratch (F := F) c ∗ zeros (F := F) c ∗ own c w1H (W1 m c) ∗ own c w2H (W2 m c) ∗ ow c 0
            ∗ own c xM (X m c) ∗ own c rM (R m c) ∗ own c oM (outAt m c)) -∗ Q ⟨⟩))
      ⊢ run c (onBufs (k0_part10 (F := F))) Q := by
  simp only [k0_part10_eq_skeleton]; unfold onBufs k0_part10_skel ghost scratch zeros
  rw [due_eq, toks_eq, bigSep_fin15, bigSep_fin15]
  iintro ⟨⟨#HR, ⟨A0, A1, A2, A3, A4, A5, A6, A7, A8, A9, A10, A11, A12, A13, A14⟩, T0, T1, T2, T3, T4, T5, T6, T7, T8, T9, T10, T11, T12, T13, T14⟩, #HL,
    ⟨C14, C13, C12, C11, C10, C9, C0⟩, Hw1, Hw2, ⟨S0, S1, S2, S3, S4, S5, S6, S7, S8, S9⟩, HO, Hx, Hr, Ho, HQ⟩
  ihave S3 := (split_any c xrM) $$ S3
  icases S3 with ⟨S3u, S3d⟩
  ihave S9 := (split_any c prM) $$ S9
  icases S9 with ⟨S9u, S9d⟩
  iapply run_bind
  iapply (part1 m K c _)
  unfold landing
  iframe HR HL Hx Hw1 Hw2 S0 S1 S2 S3u S3d S5 S7 S9u S9d HO C0 A0 T0 T1 T2
  iintro %v2 %v8 %v9 %v28 %w ⟨Hx, Hxs, C1, C2, ⟨P3u, P3d, P5, P7, P9u, P9d⟩, Z0, HO⟩
  iapply run_bind
  iapply (part2 m K c _ _ _ _ _ _)
  iframe HR Hxs Hr S4 P3u P3d HO T3 T9 T4 T10
  iintro %v59 %v60 ⟨Hr, Hrs, C3, C4, HO⟩
  iapply run_bind
  iapply (part3 m K c _ _ _ _ _ _)
  iframe HR HL Hx Hr Hrs P5 HO T5 T11 C11 A5 A11
  iintro ⟨Hx, Hr, Hrs, Hrr, Z5, Z11, HO⟩
  iapply run_bind
  iapply (part4 m K c _ _ _ _)
  iframe HR HL S6 P7 HO T6 T12 C1 A1 C2 A2
  iintro ⟨Hm1, Hw1, Hm2, Hw2, C6, Z1, Z2, HO⟩
  iapply run_bind
  iapply (part5 m K c _ _ _ _)
  iframe HR HL Hm1 Hm2 HO C6 A6 C12 A12 C3 A3
  iintro %v161 %v162 ⟨Hm1, Hm2, Hws, Hwr, Hxu, Z6, Z12, Z3, HO⟩
  ihave S8 := (split_any c psM) $$ S8
  icases S8 with ⟨S8u, S8d⟩
  iapply run_bind
  iapply (part6 m K c _ _ _ _ _)
  iframe HR HL Hwr S8u HO C9 A9
  iintro %v196 %w' ⟨Hwr, Hxru, Hpu, Z9, HO⟩
  iapply run_bind
  iapply (part7 m K c _ _ _ _ _ _)
  iframe HR HL Hwr Hpu P9u HO T7 T13 C4 A4 C10 A10
  iintro ⟨Hwr, Hxd, Hxrd, C7, Z4, Z10, HO⟩
  iapply run_bind
  iapply (part8 m K c _ _ _ _)
  iframe HR Hxrd S8d Hxu Hxd P9d HO T8 T14
  iintro ⟨Hxrd, Hxs, C8, HO⟩
  iapply run_bind
  iapply (part9 m K c _ _ _ _)
  iframe HR HL HO C7 A7 C13 A13
  iintro ⟨Hpu, Hru, Z7, Z13, HO⟩
  simp only [Prog.lift, Prog.bind_op, Prog.bind_ret, Prog.pure_eq_ret]
  ihave Ho := (split_any c oM) $$ Ho
  icases Ho with ⟨⟨%u, Hou⟩, ⟨%u', Hod⟩⟩
  iapply load_slice $$ Hru
  iintro Hru
  iapply load_slice $$ Hou
  iintro Hou
  iapply store_slice $$ Hou
  iintro Hou
  iapply (wait_own m K 8 0 (own c (dn psM) (pB m c)) rfl (by decide) (by rfl) (by decide)) $$ [C8 HO A8]
  · iframe #; iframe
  iintro ⟨HO, Hpd, Z8⟩
  iapply (wait_own m K 14 0 (own c (dn prM) (pB m (peer c))) rfl (by decide) (by rfl) (by decide)) $$ [C14 HO A14]
  · iframe #; iframe
  iintro ⟨HO, Hrd, Z14⟩
  iapply load_slice $$ Hrd
  iintro Hrd
  iapply load_slice $$ Hod
  iintro Hod
  iapply store_slice $$ Hod
  iintro Hod
  iapply run_ret
  iapply HQ
  ihave Hxr := (join c xrM (xS m (peer c))) $$ [Hxru Hxrd]
  · iframe
  ihave Hps := (join_glue c psM (xS m c) (pA m c) (pB m c)) $$ [Hpu Hpd]
  · iframe
  ihave Hpr := (join_glue c prM (xS m c) (pA m (peer c)) (pB m (peer c))) $$ [Hru Hrd]
  · iframe
  ihave Ho := (join_glue c oM (X m c) (oA m c) (oB m c)) $$ [Hou Hod]
  · unfold oA oB; iframe
  unfold outAt
  iframe Z0 Z1 Z2 Z3 Z4 Z5 Z6 Z7 Z8 Z9 Z10 Z11 Z12 Z13 Z14 Hw1 Hw2 HO Hx Hr Ho
  isplitl [Hm1]; · iexists _; iexact Hm1
  isplitl [Hm2]; · iexists _; iexact Hm2
  isplitl [Hxs]; · iexists _; iexact Hxs
  isplitl [Hxr]; · iexists _; iexact Hxr
  isplitl [Hrs]; · iexists _; iexact Hrs
  isplitl [Hrr]; · iexists _; iexact Hrr
  isplitl [Hws]; · iexists _; iexact Hws
  isplitl [Hwr]; · iexists _; iexact Hwr
  isplitl [Hps]; · iexists _; iexact Hps
  iexists _; iexact Hpr

end Cert.MoeRun

end
-- ==== Proof.Start.lean ====
/-
# The run: the launch deals the exchange's ghost state, every device runs its body
-/
module

public import proofs.«01_k».proof.Proof.Body

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data: one point, the two staged inputs, the result -/

/-- What a device starts from besides its scratch buffers. -/
def start (c : Dev nD) : sProp 𝕄 :=
  iprop((∃ K, ghost m K c) ∗ levAts L lv ∗ due c ∗ own c w1H (W1 m c) ∗ own c w2H (W2 m c))

def Φ₀ (c : Dev nD) : sProp 𝕄 := iprop(start m c ∗ scratch (F := F) c)
def Φ₁ (c : Dev nD) : sProp 𝕄 := iprop(scratch (F := F) c ∗ zeros (F := F) c ∗ own c w1H (W1 m c) ∗ own c w2H (W2 m c))

/-- What a device owes at first: the handshake and the six landings. -/
def O₀ (c : Dev nD) : CellTallies nD τ sig Unit := owe c 7

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => R m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

/-- The two staged inputs hold the device's tokens and router columns. -/
theorem before_x (c : Dev nD) (d) : (dats m 0 c).before (0 : Fin 3) t0_0 d = X m c := by
  unfold Dat.before; rw [if_pos (fetch_0 t0_0)]; rfl
theorem before_r (c : Dev nD) (d) : (dats m 0 c).before (1 : Fin 3) t0_0 d = R m c := by
  unfold Dat.before; rw [if_pos (fetch_1 t0_0)]; rfl

def bodyPre (c : Dev nD) : sProp 𝕄 :=
  iprop(Φ₀ m c ∗ (dats m 0 c).owesAt () t0_0.castSucc
    ∗ (∃ d, own c xM ((dats m 0 c).before (0 : Fin 3) t0_0 d))
    ∗ (∃ d, own c rM ((dats m 0 c).before (1 : Fin 3) t0_0 d))
    ∗ (∃ d, own c oM ((dats m 0 c).before (2 : Fin 3) t0_0 d)))

def bodyPost (c : Dev nD) : sProp 𝕄 :=
  iprop(Φ₁ m c ∗ (dats m 0 c).owesAt () t0_0.succ ∗ own c xM (X m c) ∗ own c rM (R m c) ∗ own c oM (outAt m c))

theorem sound_body (c : Dev nD) : bodyPre m c ⊢ run c (onBufs (cc0_body (F := F))) (fun _ => bodyPost m c) := by
  simp only [cc0_body_eq_skeleton]; unfold onBufs cc0_body_skel bodyPre bodyPost Φ₀ Φ₁ start
  unfold Dat.owesAt Pipeline.owesWithin
  iintro ⟨⟨⟨⟨%K, Hg⟩, #HL, Hd, Hw1, Hw2⟩, Hs⟩, ⟨%W, %hW, HO⟩, ⟨%d0, Hx⟩, ⟨%d1, Hr⟩, ⟨%d2, Ho⟩⟩
  rw [before_x, before_r, show (dats m 0 c).owed t0_0.castSucc = owe c 7 from rfl, show (dats m 0 c).owed t0_0.succ = owe c 0 from rfl]
  iapply run_bind
  iapply (body m K c _)
  iframe HL Hg Hd Hw1 Hw2 Hs Hx Hr
  isplitl [HO]; · unfold ow; iexists W; iexact HO
  isplitl [Ho]; · iexists _; iexact Ho
  iintro ⟨Hs, Hz, Hw1, Hw2, HO, Hx, Hr, Ho⟩
  unfold ow
  icases HO with ⟨%W', HO⟩
  iapply run_ret
  iframe Hs Hz Hw1 Hw2 Hx Hr Ho
  iexists W'
  isplitr; · ipureintro; exact fun _ _ => Or.inl trivial
  iexact HO

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  exact sound_body m c

end Cert.MoeRun

end
-- ==== Proof.Deal.lean ====
/-
# The run: the launch deals the exchange's ghost state, every device runs its body
-/
module

public import proofs.«01_k».proof.Proof.Start

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells dealt -/

/-- The call's own fourteen semaphores. -/
abbrev osem : Fin 14 → SemLoc sig := fun j => csem ⟨j.val + 1, by have := j.isLt; omega⟩

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 15 → GSem nD τ sig) := by
  rintro ⟨c, k⟩ ⟨c', k'⟩ h
  have h1 : c = c' := congrArg (fun g : GSem nD τ sig => g.1.1) h
  have h2 : csem k = csem k' := congrArg Prod.snd h
  have h3 : k = k' := by rw [← idx_csem k, ← idx_csem k', h2]
  rw [h1, h3]

def exCells : Finset (GSem nD τ sig) := Finset.univ.map ⟨kcell, kcell_injective⟩

theorem tok_injective : Function.Injective (fun ck : Dev nD × Fin 15 => ((kcell ck, 0, ()) : GSem nD τ sig × ℕ × Unit)) :=
  fun _ _ h => kcell_injective (congrArg Prod.fst h)
def exToks : Finset (GSem nD τ sig × ℕ × Unit) := Finset.univ.map ⟨_, tok_injective⟩

def u₀ : UU := (initOf (Pipeline.cells cfgs cellOf_inj) (Pipeline.launchToks cfgs cellOf_inj), initOf exCells exToks)

/-- The duty tokens of a device's own cells. -/
def toks (c : Dev nD) : sProp 𝕄 := bigSep Finset.univ fun j : Fin 15 => dutyTok ER (kcell (c, j)) 0 ()

/-- A device's positions, and what records that its cells have reached their round. -/
def places (c : Dev nD) : sProp 𝕄 := bigSep Finset.univ fun j : Fin 15 => iprop(atPos ER (kcell (c, j)) 0 ∅ 0 ∗ reached ER (kcell (c, j)) 0)

/-- What the launch deals device `c`. -/
def G (c : Dev nD) : sProp 𝕄 :=
  iprop((bigSep Finset.univ fun j : Fin 15 => roundState ER (sched m) (kcell (c, j)) 0) ∗ places (F := F) c ∗ toks (F := F) c)

/-- What the step over all devices makes of it. -/
def G' (c : Dev nD) : sProp 𝕄 := iprop(∃ K, ghost m K c)

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Fin 15 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]; rfl
  iintro HX
  imod (Rounds.fund ER (sched m) exCells exToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  iframe Hst' Hat' Hr' Htok'

/-! ## The counters -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0 ∗ semVal (kcell (c, 13)) 0 ∗ semVal (kcell (c, 14)) 0) := by
  rw [Pipeline.ownSems0_eq_of_list c osem [0, 1, 2, 3, 4, 5, 6, 7, 8, 9, 10, 11, 12, 13] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- The barrier's counter and the call's own fourteen are the fifteen of the exchange. -/
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros; rw [ownSems0_eq, unscopedSems0_eq, bigSep_fin15]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (sched m) κ (kcell (c, j)))) ∗ places (F := F) c ∗ toks (F := F) c) := by
  unfold G
  iintro ⟨Hos, Hus, Hst, Hat, Htok⟩
  ihave Hv := (Entails.of_eq (sems0_eq (F := F) c).symm) $$ [Hos Hus]
  · iframe Hos Hus
  imod (show iprop(zeros (F := F) c ∗ bigSep Finset.univ fun j : Fin 15 => roundState ER (sched m) (kcell (c, j)) 0)
      ⊢ (|={Set.univ}=> bigSep Finset.univ fun j => iprop(∃ κ : ℕ, cellInv ER (sched m) κ (kcell (c, j))) : sProp 𝕄) from by
        unfold zeros
        rw [← bigSep_sep']
        exact (bigSep_mono fun j _ => (Rounds.body_intro ER (sched m) (kcell (c, j))).trans inv_alloc).trans (bigSep_fupd _ _)) $$ [Hv Hst] with Hinv
  · iframe Hv Hst
  imodintro
  iframe Hinv Hat Htok

/-! ## The tokens dealt around -/

/-- The tokens of what a device pays. -/
def payToks (c : Dev nD) : sProp 𝕄 := bigSep Finset.univ fun j : Fin 15 => dutyTok ER (kcell (paid (c, j))) 0 ()
def posts (c : Dev nD) : sProp 𝕄 := bigSep Finset.univ fun j : Fin 15 => atPos ER (kcell (c, j)) 0 ∅ 0

/-- Every cell's token goes to the device that pays the cell. -/
theorem toks_around : (bigSep Finset.univ fun c : Dev nD => (toks c : sProp 𝕄)) = bigSep Finset.univ fun c : Dev nD => payToks c := by
  unfold toks payToks
  rw [← bigSep_univ_prod (fun ck : Dev nD × Fin 15 => (dutyTok ER (kcell ck) 0 () : sProp 𝕄)),
    ← bigSep_univ_prod (fun ck : Dev nD × Fin 15 => (dutyTok ER (kcell (paid ck)) 0 () : sProp 𝕄)),
    bigSep_univ_equiv paidEquiv (fun ck : Dev nD × Fin 15 => (dutyTok ER (kcell ck) 0 () : sProp 𝕄))]
  rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) : iprop(recs m K ∗ posts (F := F) c ∗ payToks (F := F) c) ⊢ G' m c := by
  unfold G' ghost posts payToks
  iintro H
  iexists K
  iexact H

theorem regroup :
    (bigSep Finset.univ fun c : Dev nD => iprop((bigSep Finset.univ fun j => iprop(∃ κ : ℕ, cellInv ER (sched m) κ (kcell (c, j))))
          ∗ places (F := F) c ∗ toks (F := F) c) : sProp 𝕄)
      ⊢ bigSep Finset.univ (G' m) := by
  unfold places
  rw [bigSep_sep', bigSep_sep', ← bigSep_univ_prod (fun ck : Dev nD × Fin 15 => iprop(∃ κ : ℕ, cellInv ER (sched m) κ (kcell ck))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun ck : Dev nD × Fin 15 => (reached ER (kcell ck) 0 : sProp 𝕄)), toks_around]
  iintro ⟨HI, ⟨Hat, #HR⟩, Htok⟩
  ihave HK := (BI.bigSep_exists_pi Finset.univ (fun (ck : Dev nD × Fin 15) (κ : ℕ) => (cellInv ER (sched m) κ (kcell ck) : sProp 𝕄))) $$ HI
  icases HK with ⟨%K, #HI⟩
  iapply (with_persistent (R := recs m K) fun c _ => ghost_intro m K c)
  isplitr
  · unfold recs; isplitl; · iexact HI
    iexact HR
  · iapply (Entails.of_eq (bigSep_sep' Finset.univ (fun c : Dev nD => (posts c : sProp 𝕄)) payToks).symm)
    unfold posts
    iframe Hat Htok

/-- The step over all devices: every invariant opened, every token where it is paid. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units due -/

theorem oj_inj {n i : ℕ} (hn : n < 7) (hi : i < 7) (h : oj n = oj i) : n = i := by
  have := congrArg Fin.val h
  unfold oj at this
  split at this <;> split at this <;> simp at this <;> omega

/-- What device `d` owes a cell of device `c`: that cell's units if `c` is its peer and the payment is among the first `k`. -/
theorem owe_at (d c : Dev nD) (n : ℕ) (hn : n < 7) (k : ℕ) (hk : k ≤ 7) :
    owe d k (kcell (c, oj n)) () = if n < k ∧ d = peer c then amt (oj n) else 0 := by
  induction k with
  | zero => rw [if_neg (fun h => absurd h.1 (Nat.not_lt_zero n))]; rfl
  | succ k ih =>
    unfold owe
    rw [Pi.add_apply, Finsupp.add_apply, ih (by omega), tallyAt_apply]
    by_cases hd : d = peer c
    · subst hd
      rw [peer_peer]
      by_cases hnk : n = k
      · subst hnk; simp
      · rw [if_neg (c := kcell (c, oj n) = kcell (c, oj k) ∧ _)]
        · by_cases h : n < k
          · rw [if_pos ⟨h, rfl⟩, if_pos ⟨by omega, rfl⟩, Nat.add_zero]
          · rw [if_neg (fun e => h e.1), if_neg (fun e => by have := e.1; omega)]
        · rintro ⟨h, -⟩
          exact hnk (oj_inj hn (by omega) (congrArg Prod.snd (kcell_injective h)))
    · rw [if_neg (fun h => hd h.2), if_neg (c := n < k + 1 ∧ _) (fun h => hd h.2), if_neg]
      rintro ⟨h, -⟩
      apply hd
      have := congrArg Prod.fst (kcell_injective h)
      rw [show c = peer d from this, peer_peer]

theorem launch_at (c : Dev nD) (n : Fin 7) :
    tallyOn (kcell (c, oj n.val)) (launchCredit (Pipeline.owing O₀) 0 (kcell (c, oj n.val)))
      = (tallyAt (kcell (c, oj n.val)) () (amt (oj n.val)) : CellTallies nD τ sig Unit) := by
  unfold tallyAt; refine congrArg _ (Finsupp.ext fun u => ?_); cases u
  rw [Pipeline.launchCredit_owing, Finsupp.single_eq_same]
  refine (Finset.sum_congr rfl fun d _ => (owe_at d c n.val n.isLt 7 (Nat.le_refl 7)).trans (if_congr (and_iff_right n.isLt) rfl rfl)).trans ?_
  rw [Finset.sum_ite_eq' Finset.univ (peer c) fun _ => amt (oj n.val), if_pos (Finset.mem_univ _)]

theorem csem_oj_injective : Function.Injective (fun n : Fin 7 => csem (oj n.val)) := fun a b h =>
  Fin.ext (oj_inj a.isLt b.isLt (by have := congrArg idx h; simpa only [idx_csem] using this))

theorem creds (c : Dev nD) : (Pipeline.launchCred O₀ c : sProp 𝕄) ⊢ due c := by
  unfold Pipeline.launchCred due
  refine BIBase.Entails.trans (bigSep_subset (Finset.subset_univ (Finset.univ.map ⟨_, csem_oj_injective⟩))) ?_
  rw [bigSep_map]
  exact Entails.of_eq (bigSep_congr fun n _ => congrArg cred (launch_at c n))

end Cert.MoeRun

end
-- ==== Proof.Run.lean ====
/-
# The run: the launch deals the exchange's ghost state, every device runs its body
-/
module

public import proofs.«01_k».proof.Proof.Deal
public import Idealize.ShloMosaic.Lib.Pipeline.CollectiveSegs

@[expose] public section

set_option maxRecDepth 16384

noncomputable section

namespace Cert.MoeRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's conditions -/

/-- The arguments no window stages, as the kernel's two weight memrefs. -/
theorem rest_eq (c : Dev nD) : (Pipeline.unscopedRestP (Ix := Unit) (Name := ℕ) (U := UU) (Lvl := ℕ) Pipeline.Prefetch.none cfg0.spec c (fun b => m ((c : Thread nD τ).loc b)) : sProp 𝕄)
    = iprop(own c w1H (W1 m c) ∗ own c w2H (W2 m c)) := by
  rw [Pipeline.unscopedRestP_none, unscopedRest0_eq]; unfold own w1H w2H; rw [owns_whole, owns_whole]; rfl

/-- The call's scratch buffers are the ten memrefs' contents. -/
theorem scratch_eq (c : Dev nD) : (Pipeline.scopedRest (Ix := Unit) (Name := ℕ) (U := UU) (Lvl := ℕ) (Val := Elt F) cfg0.spec c : sProp 𝕄) = scratch c := by
  rw [scopedRest0_eq]; unfold scratch ownAny own w1M w2M xsM xrM rsM rrM wsM wrM psM prM; simp only [owns_whole]; rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨⟨H1, H2⟩, Hlev, Hcr, -, HG⟩
  ihave Hc := (creds (F := F) c) $$ Hcr
  imodintro
  unfold start G'
  iframe H1 H2 Hlev Hc HG

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  iframe Hs Hr

/-- What is left to a device at the end, besides its windows' arrays. -/
def leftAt (c : Dev nD) : sProp 𝕄 := iprop(unscopedSems0 c ∗ own c w1H (W1 m c) ∗ own c w2H (W2 m c))

theorem phi1_exit (c : Dev nD) :
    (dats m 0 c).Φ (Fin.last cfg0.N) ⊢ iprop(leftAt m c ∗ Pipeline.ownSems0 osem c ∗ Pipeline.scopedRest cfg0.spec c) := by
  rw [show (dats m 0 c).Φ (Fin.last cfg0.N) = Φ₁ m c from rfl, scratch_eq]
  unfold Φ₁ leftAt
  rw [sems0_eq]
  iintro ⟨Hs, ⟨Hu, Ho⟩, H1, H2⟩
  iframe Hs Hu Ho H1 H2

theorem waits (c : Dev nD) : (levAts L lv : sProp 𝕄) ⊢ Pipeline.cellsWaits cfgs (dats m) () 0 c :=
  Pipeline.cellsWaits_intro cfgs (dats m) () 0 c fun w s t => by
    have hl (n : ℕ) (hn : n ≤ 7) : ∀ i < n, lvl (.dma ((cfg0.win w).sem s)) < lvl (csem (oj i)) := by
      intro i hi
      have h1 : lvl (.dma ((cfg0.win w).sem s)) = 0 := by fin_cases w <;> fin_cases s <;> decide
      have h2 : ∀ k : Fin 7, 0 < lvl (csem (oj k.val)) := by decide
      rw [h1]; exact h2 ⟨i, by omega⟩
    rcases t with ⟨_ | _, ht⟩
    · exact mayWait c _ 7 (hl 7 (by omega))
    · exact mayWait c _ 0 (hl 0 (by omega))

/-! ## The run -/

def finalA (c : Dev nD) (w : Fin cfg0.W) : Buf (Elt F) ((cfg0.win w).arr.view.loc (c : Thread nD τ)) := (dats m 0 c).arrAt w cfg0.N

/-- Every window's array as computed, the two weight arrays unchanged. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = m ((c : Thread nD τ).loc main_arg2)
    ∧ r.2.mem ((c : Thread nD τ).loc main_arg3) = m ((c : Thread nD τ).loc main_arg3)

/-- What `leftAt` says of the final state. -/
theorem read_left (c : Dev nD) (s' : Phys nD τ sig (Elt F)) :
    iprop(leftAt m c ∗ emp ∗ SI s') ⊢ |={Set.univ}=> iprop(⌜((∀ sm : SemLoc sig, sm.isScoped .tc = false → s'.mem.sem ((c.tc : Thread nD τ), sm) = 0)
        ∧ s'.mem.mem ((c : Thread nD τ).loc main_arg2) = m ((c : Thread nD τ).loc main_arg2)
        ∧ s'.mem.mem ((c : Thread nD τ).loc main_arg3) = m ((c : Thread nD τ).loc main_arg3))⌝ ∗ SI s' : sProp 𝕄) := by
  unfold leftAt own w1H w2H
  rw [owns_whole, owns_whole]
  iintro ⟨⟨Hu, H1, H2⟩, -, HSI⟩
  icombine HSI H1 gives %h1
  icombine HSI H2 gives %h2
  imod (Pipeline.unscopedSems0_read (X := unscopedSems0 c) (c := c) fupd_intro s') $$ [Hu HSI] with ⟨%h0, HSI⟩
  · iframe Hu HSI
  imodintro
  isplitr
  · ipureintro
    exact ⟨h0, funext fun i => h1 i (Finset.mem_univ i), funext fun i => h2 i (Finset.mem_univ i)⟩
  · iexact HSI

set_option maxRecDepth 8000 in
/-- On the compiled mesh of eight devices, for any float values and from any memory with zero counters: every weakly
    fair execution of @main ends, with the result arrays as computed, the arguments unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := leftAt m) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := read_left m)
    (hQ := fun _ h hs => ⟨fun c => ⟨fun w => (h c).1 w, (h c).2.2.2.1, (h c).2.2.2.2⟩, sem_eq_zero hs fun c => (h c).2.2.1⟩)

/-- The two staged arguments hold after the run what they held. -/
theorem final_x (c : Dev nD) : finalA m c (0 : Fin 3) = m ((c : Thread nD τ).loc main_arg0) := (dats (F := F) m 0 c).arrAt_in (0 : Fin 3) rfl _
theorem final_r (c : Dev nD) : finalA m c (1 : Fin 3) = m ((c : Thread nD τ).loc main_arg1) := (dats (F := F) m 0 c).arrAt_in (1 : Fin 3) rfl _

/-- The run with the values dropped: the arguments are unchanged, every counter is at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨((h.1 c).1 0).trans (final_x m c), ((h.1 c).1 1).trans (final_r m c), (h.1 c).2.1, (h.1 c).2.2⟩, h.2⟩)
    (run_main m ρ)

end Cert.MoeRun

end
-- ==== Proof.Spec.lean ====
/-
  The mathematics of the mixture of experts, on extended reals and free of any program: four gates for a token, the
  gates no smaller than the second largest value kept, a softmax over the kept ones, and the weighted sum of the
  experts' two-layer networks. The kernel keeps a gate by equality with the largest value or with the largest of the
  rest; `kept_iff` says that this keeps the same gates.
-/
module

public import Idealize.ShloMosaic.Lib.Pointwise

@[expose] public section

noncomputable section

namespace Cert.Moe

open Idealize.ShloMosaic

/-- The value from which the programs start a maximum. -/
def least : EReal := Ideal.ofBits .f32 0xFF800000#32

/-- The largest of four values. -/
def top (g : Fin 4 → EReal) : EReal := Finset.univ.fold max least g

/-- The gates below the largest, `least` in the place of the others. -/
def rest (g : Fin 4 → EReal) (e : Fin 4) : EReal := if g e < top g then g e else least

/-- What a gate contributes before the division: nothing unless it is at least the second largest value. -/
def kept (g : Fin 4 → EReal) (e : Fin 4) : EReal := if top (rest g) ≤ g e then Ideal.exp (g e - top g) else 0

/-- The routing weights. -/
def weight (g : Fin 4 → EReal) (e : Fin 4) : EReal := Ideal.div (kept g e) (∑ i, kept g i)

theorem le_top (g : Fin 4 → EReal) (e : Fin 4) : g e ≤ top g := (Finset.le_fold_max _).2 (.inr ⟨e, Finset.mem_univ _, le_rfl⟩)

theorem rest_le (g : Fin 4 → EReal) : top (rest g) ≤ top g := by
  refine (Finset.fold_max_le _).2 ⟨(Finset.le_fold_max _).2 (.inl le_rfl), fun e _ => ?_⟩
  unfold rest
  split
  · exact le_top g e
  · exact (Finset.le_fold_max _).2 (.inl le_rfl)

/-- `rest` by equality with the largest value. -/
theorem rest_eq (g : Fin 4 → EReal) (e : Fin 4) : (if g e = top g then least else g e) = rest g e := by
  unfold rest
  by_cases h : g e = top g
  · rw [if_pos h, if_neg (by rw [h]; exact lt_irrefl _)]
  · rw [if_neg h, if_pos (lt_of_le_of_ne (le_top g e) h)]

/-- The gates kept are the largest ones and the largest of the rest. -/
theorem kept_iff (g : Fin 4 → EReal) (e : Fin 4) : (g e = top g ∨ rest g e = top (rest g)) ↔ top (rest g) ≤ g e := by
  constructor
  · rintro (h | h)
    · rw [h]; exact rest_le g
    · rw [← h, ← rest_eq]
      split
      · next h' => rw [h']; exact (Finset.le_fold_max _).2 (.inl le_rfl)
      · exact le_rfl
  · intro h
    by_cases h' : g e = top g
    · exact .inl h'
    · have hr : rest g e = g e := by rw [← rest_eq, if_neg h']
      exact .inr (le_antisymm (le_top (rest g) e) (by rw [hr]; exact h))

/-- One expert on one token: the value at column `j` of `relu (x · w₁) · w₂`. -/
def expert (x : Fin 512 → EReal) (w₁ : Fin 512 → Fin 1024 → EReal) (w₂ : Fin 1024 → Fin 512 → EReal) (j : Fin 512) : EReal :=
  ∑ h, max (∑ k, x k * w₁ k h) 0 * w₂ h j

/-- The token's gates. -/
def gate (x : Fin 512 → EReal) (r : Fin 512 → Fin 4 → EReal) (e : Fin 4) : EReal := ∑ k, x k * r k e

/-- An expert's share of the token's result. -/
def share (x : Fin 512 → EReal) (r : Fin 512 → Fin 4 → EReal) (w₁ : Fin 4 → Fin 512 → Fin 1024 → EReal)
    (w₂ : Fin 4 → Fin 1024 → Fin 512 → EReal) (j : Fin 512) (e : Fin 4) : EReal :=
  expert x (w₁ e) (w₂ e) j * weight (gate x r) e

/-- The token's result: the four shares added up in order. -/
def moe (x : Fin 512 → EReal) (r : Fin 512 → Fin 4 → EReal) (w₁ : Fin 4 → Fin 512 → Fin 1024 → EReal)
    (w₂ : Fin 4 → Fin 1024 → Fin 512 → EReal) (j : Fin 512) : EReal :=
  share x r w₁ w₂ j 0 + share x r w₁ w₂ j 1 + share x r w₁ w₂ j 2 + share x r w₁ w₂ j 3

end Cert.Moe

end
-- ==== Proof.KernelValue.lean ====
/-
  A device's result read at an index. The devices of a y pair hold one block of 256 token rows each, one half of the
  router's columns each and two of the four experts each (`Laid`); the result of a device is then `Cert.Moe.moe` of
  its token rows and of all four experts, two shares computed on the device itself and two on its peer.
-/
module

public import proofs.«01_k».proof.Proof.Spec
public import proofs.«01_k».proof.Proof.Rules

@[expose] public section

set_option maxRecDepth 16384

noncomputable section

namespace Cert.MoeRun

open Cert.KernelIdeal Cert.KernelIdeal.Gen
open Idealize.ShloMosaic

/-- The device's place in its y pair. -/
def yc (c : Dev nD) : Fin 2 := ⟨c.val / 2 % 2, Nat.mod_lt _ (by decide)⟩

theorem yc_peer (c : Dev nD) : yc (peer c) = 1 - yc c := by revert c; decide
theorem yc_cases (c : Dev nD) : yc c = 0 ∨ yc c = 1 := by revert c; decide
theorem select_one {α : Type} (a b : α) : Scalar.select 1#1 a b = a := if_pos (by decide)
theorem select_zero {α : Type} (a b : α) : Scalar.select 0#1 a b = b := if_neg (by decide)
theorem lo_zero (c : Dev nD) (h : yc c = 0) : lo c = 1#1 := by revert c; decide
theorem lo_one (c : Dev nD) (h : yc c = 1) : lo c = 0#1 := by revert c; decide

/-- Row `t` of block `y`. -/
def row (y : Fin 2) (t : Fin 256) : Fin 512 := ⟨y.val * 256 + t.val, by omega⟩
/-- Member `e` of pair `y`. -/
def mem (y : Fin 2) (e : Fin 2) : Fin 4 := ⟨y.val * 2 + e.val, by omega⟩

/-- The devices' blocks are cut from whole arrays. -/
structure Laid (m : (ℓ : Loc nD τ sig) → Buf (Elt Ideal) ℓ) (x : Fin 512 → Fin 512 → EReal) (r : Fin 512 → Fin 4 → EReal)
    (w₁ : Fin 4 → Fin 512 → Fin 1024 → EReal) (w₂ : Fin 4 → Fin 1024 → Fin 512 → EReal) : Prop where
  tokens : ∀ c t k, X m c (ix2 t k) = x (row (yc c) t) k
  router : ∀ c k e, R m c (ix2 k e) = r k (mem (yc c) e)
  first : ∀ c e k h, W1 m c (ix3 e k h) = w₁ (mem (yc c) e) k h
  second : ∀ c e h j, W2 m c (ix3 e h j) = w₂ (mem (yc c) e) h j

/-! ## Loads at an index -/

/-- The upper and the lower half of the rows. -/
theorem upv_apply {e : EltTy} (v : S256x512.Idx → Elt Ideal e) (t : Fin 128) (j : Fin 512) : upv v (ix2 t j) = v (ix2 ⟨t.val, by omega⟩ j) := by
  show View.ld (Val := Elt Ideal) (e' := e) v h0 (ix2 t j) = _
  pointwise
theorem dnv_apply {e : EltTy} (v : S256x512.Idx → Elt Ideal e) (t : Fin 128) (j : Fin 512) : dnv v (ix2 t j) = v (ix2 ⟨128 + t.val, by omega⟩ j) := by
  show View.ld (Val := Elt Ideal) (e' := e) v h1 (ix2 t j) = _
  pointwise

variable {m : (ℓ : Loc nD τ sig) → Buf (Elt Ideal) ℓ} {x : Fin 512 → Fin 512 → EReal} {r : Fin 512 → Fin 4 → EReal}
  {w₁ : Fin 4 → Fin 512 → Fin 1024 → EReal} {w₂ : Fin 4 → Fin 1024 → Fin 512 → EReal}

/-- The experts' layers. -/
theorem w1a_apply (hm : Laid m x r w₁ w₂) (c : Dev nD) (k : Fin 512) (h : Fin 1024) : w1a m c (ix2 k h) = w₁ (mem (yc c) 0) k h := by
  rw [← hm.first]
  show k0_pay11 (k0_pay10 (View.ld (Val := Elt Ideal) (e' := .f32) (W1 m c) (e1 0 inb_S2x512x1024_S1x512x1024_0_0_0))) (ix2 k h) = _
  unfold k0_pay11 k0_pay10
  pointwise
theorem w1b_apply (hm : Laid m x r w₁ w₂) (c : Dev nD) (k : Fin 512) (h : Fin 1024) : w1b m c (ix2 k h) = w₁ (mem (yc c) 1) k h := by
  rw [← hm.first]
  show k0_pay12 (View.ld (Val := Elt Ideal) (e' := .f32) (W1 m c) (e1 1 inb_S2x512x1024_S1x512x1024_1_0_0)) (ix2 k h) = _
  unfold k0_pay12
  pointwise
theorem w2a_apply (hm : Laid m x r w₁ w₂) (c : Dev nD) (h : Fin 1024) (j : Fin 512) : w2a m c (ix2 h j) = w₂ (mem (yc c) 0) h j := by
  rw [← hm.second]
  show k0_pay13 (View.ld (Val := Elt Ideal) (e' := .f32) (W2 m c) (e2 0 inb_S2x1024x512_S1x1024x512_0_0_0)) (ix2 h j) = _
  unfold k0_pay13
  pointwise
theorem w2b_apply (hm : Laid m x r w₁ w₂) (c : Dev nD) (h : Fin 1024) (j : Fin 512) : w2b m c (ix2 h j) = w₂ (mem (yc c) 1) h j := by
  rw [← hm.second]
  show k0_pay14 (View.ld (Val := Elt Ideal) (e' := .f32) (W2 m c) (e2 1 inb_S2x1024x512_S1x1024x512_1_0_0)) (ix2 h j) = _
  unfold k0_pay14
  pointwise

/-- The narrowed tokens. -/
theorem xS_apply (hm : Laid m x r w₁ w₂) (c : Dev nD) (t : Fin 256) (k : Fin 512) : xS m c (ix2 t k) = x (row (yc c) t) k := by
  rw [← hm.tokens]
  unfold xS k0_pay1
  pointwise
/-- The transposed router columns. -/
theorem rS_apply (hm : Laid m x r w₁ w₂) (c : Dev nD) (e : Fin 2) (k : Fin 512) : rS m c (ix2 e k) = r k (mem (yc c) e) := by
  rw [← hm.router]
  unfold rS k0_pay2
  pointwise

/-! ## The gates and the routing weights -/

theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq] <;> rfl

theorem select_ofBool {α : Type} (p : Prop) [Decidable p] (a b : α) : Scalar.select (BitVec.ofBool (decide p)) a b = if p then a else b := by
  by_cases hp : p <;> simp only [hp] <;> rfl

/-- The gates of a token, in the order of the experts on both devices of the pair. -/
theorem gt_apply (hm : Laid m x r w₁ w₂) (c : Dev nD) (t : Fin 256) (e : Fin 4) : gt m c (ix2 t e) = Moe.gate (x (row (yc c) t)) r e := by
  have hx := fun k => hm.tokens c t k
  have hr := fun k i => hm.router c k i
  have hs := fun i k => rS_apply hm (peer c) i k
  rw [yc_peer] at hs
  unfold gt k0_pay3 Moe.gate
  obtain h | h := yc_cases c
  · rw [lo_zero c h]
    rw [select_one]
    rw [h] at hx hr hs ⊢
    fin_cases e <;> (pointwise; simp only [hx, hr, hs]; rfl)
  · rw [lo_one c h]
    rw [select_zero]
    rw [h] at hx hr hs ⊢
    fin_cases e <;> (pointwise; simp only [hx, hr, hs]; rfl)

theorem gmax_apply (hm : Laid m x r w₁ w₂) (c : Dev nD) (t : Fin 256) : gmax m c (ix2 t 0) = Moe.top (Moe.gate (x (row (yc c) t)) r) := by
  have hg := fun e => gt_apply hm c t e
  show k0_pay4 (F := Ideal) _ _ _ _ _ (ix2 t 0) = _
  unfold k0_pay4
  change ∀ e, k0_pay3 (F := Ideal) (lo c) (X m c) (R m c) (X m c) (rS m (peer c)) (ix2 t e) = _ at hg
  generalize k0_pay3 (F := Ideal) (lo c) (X m c) (R m c) (X m c) (rS m (peer c)) = g at hg ⊢
  pointwise
  simp only [hg]
  rfl

theorem gtop_apply (hm : Laid m x r w₁ w₂) (c : Dev nD) (t : Fin 256) (e : Fin 4) :
    gtop m c (ix2 t e) = BitVec.ofBool (decide (Moe.gate (x (row (yc c) t)) r e = Moe.top (Moe.gate (x (row (yc c) t)) r))) := by
  rw [← gt_apply hm, ← gmax_apply hm]
  unfold gtop k0_pay5
  pointwise
  rfl

theorem grest_apply (hm : Laid m x r w₁ w₂) (c : Dev nD) (t : Fin 256) (e : Fin 4) :
    grest m c (ix2 t e) = Moe.rest (Moe.gate (x (row (yc c) t)) r) e := by
  rw [← Moe.rest_eq]
  have hg := gt_apply hm c t e
  have hk := gtop_apply hm c t e
  change k0_pay3 (F := Ideal) (lo c) (X m c) (R m c) (X m c) (rS m (peer c)) (ix2 t e) = _ at hg
  change k0_pay5 (F := Ideal) (lo c) (X m c) (R m c) (X m c) (rS m (peer c)) (ix2 t e) = _ at hk
  unfold grest k0_pay6
  pointwise
  simp only [hk, hg, select_ofBool]
  rfl

/-- The routing weights of a token, all four. -/
theorem weights_apply (hm : Laid m x r w₁ w₂) (c : Dev nD) (t : Fin 256) (e : Fin 4) :
    k0_pay7 (gt m c) (gmax m c) (gtop m c) (grest m c) (ix2 t e) = Moe.weight (Moe.gate (x (row (yc c) t)) r) e := by
  unfold k0_pay7
  pointwise
  simp only [gt_apply hm, gmax_apply hm, gtop_apply hm, grest_apply hm, ori_ofBool, select_ofBool]
  have hs : ∀ i, (Moe.gate (x (row (yc c) t)) r i = Moe.top (Moe.gate (x (row (yc c) t)) r)
      ∨ Moe.rest (Moe.gate (x (row (yc c) t)) r) i = Finset.fold max (Ideal.ofBits .f32 0xFF800000#32) (fun i => Moe.rest (Moe.gate (x (row (yc c) t)) r) i) Finset.univ)
      ↔ Moe.top (Moe.rest (Moe.gate (x (row (yc c) t)) r)) ≤ Moe.gate (x (row (yc c) t)) r i := fun i => Moe.kept_iff _ i
  simp only [hs]
  rfl

/-- The routing weights for the device's own experts … -/
theorem wOwn_apply (hm : Laid m x r w₁ w₂) (c : Dev nD) (t : Fin 256) (e : Fin 2) :
    wOwn m c (ix2 t e) = Moe.weight (Moe.gate (x (row (yc c) t)) r) (mem (yc c) e) := by
  rw [← weights_apply hm]
  unfold wOwn k0_pay8
  obtain h | h := yc_cases c
  · rw [lo_zero c h, select_one, h]
    pointwise
    congr 2
    exact Fin.ext (show e.val = 0 * 2 + e.val by omega)
  · rw [lo_one c h, select_zero, h]
    pointwise
    rfl
/-- … and for its peer's. -/
theorem wS_apply (hm : Laid m x r w₁ w₂) (c : Dev nD) (t : Fin 256) (e : Fin 2) :
    wS m c (ix2 e t) = Moe.weight (Moe.gate (x (row (yc c) t)) r) (mem (1 - yc c) e) := by
  rw [← weights_apply hm]
  unfold wS k0_pay9
  obtain h | h := yc_cases c
  · rw [lo_zero c h, select_one, h]
    pointwise
    rfl
  · rw [lo_one c h, select_zero, h]
    pointwise
    congr 2
    exact Fin.ext (show e.val = 0 * 2 + e.val by omega)

/-! ## The partial results -/

/-- A row of the received weights, its left and its right half. -/
theorem received_left (w : FVec Ideal S2x256 .f32) (i : Fin 2) (hi : ∀ a, ![i.val, 0] a + S1x128.size a ≤ S2x256.size a) (t : Fin 128) :
    wrM.view.readAt (Elt Ideal) (q i 0 hi).toLoadRect w (ix2 0 t) = w (ix2 i ⟨t.val, by omega⟩) := by
  show View.ld (Val := Elt Ideal) (e' := .f32) w (q i 0 hi) (ix2 0 t) = _
  pointwise
theorem received_right (w : FVec Ideal S2x256 .f32) (i : Fin 2) (hi : ∀ a, ![i.val, 128] a + S1x128.size a ≤ S2x256.size a) (t : Fin 128) :
    wrM.view.readAt (Elt Ideal) (q i 128 hi).toLoadRect w (ix2 0 t) = w (ix2 i ⟨128 + t.val, by omega⟩) := by
  show View.ld (Val := Elt Ideal) (e' := .f32) w (q i 128 hi) (ix2 0 t) = _
  pointwise

/-- What the experts of pair place `y` add to a token. -/
def part (x : Fin 512 → EReal) (r : Fin 512 → Fin 4 → EReal) (w₁ : Fin 4 → Fin 512 → Fin 1024 → EReal)
    (w₂ : Fin 4 → Fin 1024 → Fin 512 → EReal) (j : Fin 512) (y : Fin 2) : EReal :=
  Moe.share x r w₁ w₂ j (mem y 0) + Moe.share x r w₁ w₂ j (mem y 1)

/-- What the peer computes for a token of the upper half of this device's rows … -/
theorem pA_apply (hm : Laid m x r w₁ w₂) (c : Dev nD) (t : Fin 128) (j : Fin 512) :
    pA m (peer c) (ix2 t j) = part (x (row (yc c) ⟨t.val, by omega⟩)) r w₁ w₂ j (1 - yc c) := by
  unfold pA
  rw [peer_peer]
  have hx := fun k => (upv_apply (e := .bf16) (xS m c) t k).trans (xS_apply hm c ⟨t.val, by omega⟩ k)
  have q0 := (received_left (wS m c) 0 inb_S2x256_S1x128_0_0 t).trans (wS_apply hm c ⟨t.val, by omega⟩ 0)
  have q1 := (received_left (wS m c) 1 inb_S2x256_S1x128_1_0 t).trans (wS_apply hm c ⟨t.val, by omega⟩ 1)
  change wrM.view.readAt (Elt Ideal) (q 0 0 inb_S2x256_S1x128_0_0).toLoadRect (wS m c) (ix2 0 t) = _ at q0
  change wrM.view.readAt (Elt Ideal) (q 1 0 inb_S2x256_S1x128_1_0).toLoadRect (wS m c) (ix2 0 t) = _ at q1
  generalize wrM.view.readAt (Elt Ideal) (q 0 0 inb_S2x256_S1x128_0_0).toLoadRect (wS m c) = v0 at q0 ⊢
  generalize wrM.view.readAt (Elt Ideal) (q 1 0 inb_S2x256_S1x128_1_0).toLoadRect (wS m c) = v1 at q1 ⊢
  generalize upv (xS m c) = xv at hx ⊢
  unfold k0_pay15
  pointwise
  simp only [hx, q0, q1, w1a_apply hm, w1b_apply hm, w2a_apply hm, w2b_apply hm, yc_peer]
  rfl

/-- … and of the lower half. -/
theorem pB_apply (hm : Laid m x r w₁ w₂) (c : Dev nD) (t : Fin 128) (j : Fin 512) :
    pB m (peer c) (ix2 t j) = part (x (row (yc c) ⟨128 + t.val, by omega⟩)) r w₁ w₂ j (1 - yc c) := by
  unfold pB
  rw [peer_peer]
  have hx := fun k => (dnv_apply (e := .bf16) (xS m c) t k).trans (xS_apply hm c ⟨128 + t.val, by omega⟩ k)
  have q0 := (received_right (wS m c) 0 inb_S2x256_S1x128_0_128 t).trans (wS_apply hm c ⟨128 + t.val, by omega⟩ 0)
  have q1 := (received_right (wS m c) 1 inb_S2x256_S1x128_1_128 t).trans (wS_apply hm c ⟨128 + t.val, by omega⟩ 1)
  change wrM.view.readAt (Elt Ideal) (q 0 128 inb_S2x256_S1x128_0_128).toLoadRect (wS m c) (ix2 0 t) = _ at q0
  change wrM.view.readAt (Elt Ideal) (q 1 128 inb_S2x256_S1x128_1_128).toLoadRect (wS m c) (ix2 0 t) = _ at q1
  generalize wrM.view.readAt (Elt Ideal) (q 0 128 inb_S2x256_S1x128_0_128).toLoadRect (wS m c) = v0 at q0 ⊢
  generalize wrM.view.readAt (Elt Ideal) (q 1 128 inb_S2x256_S1x128_1_128).toLoadRect (wS m c) = v1 at q1 ⊢
  generalize dnv (xS m c) = xv at hx ⊢
  unfold k0_pay18 k0_pay16 k0_pay17
  pointwise
  simp only [hx, q0, q1, w1a_apply hm, w1b_apply hm, w2a_apply hm, w2b_apply hm, yc_peer]
  rfl

/-- What the device computes for its own tokens. -/
theorem own_apply (hm : Laid m x r w₁ w₂) (c : Dev nD) (t : Fin 256) (j : Fin 512) :
    k0_pay20 (wOwn m c) (w1a m c) (w1b m c) (w2a m c) (w2b m c) (xS m c) (k0_pay19 (wOwn m c)) (ix2 t j)
      = part (x (row (yc c) t)) r w₁ w₂ j (yc c) := by
  unfold k0_pay20 k0_pay19
  pointwise
  simp only [wOwn_apply hm, xS_apply hm, w1a_apply hm, w1b_apply hm, w2a_apply hm, w2b_apply hm]
  rfl

/-- The two parts of a token make its result. -/
theorem parts (x : Fin 512 → EReal) (r : Fin 512 → Fin 4 → EReal) (w₁ : Fin 4 → Fin 512 → Fin 1024 → EReal)
    (w₂ : Fin 4 → Fin 1024 → Fin 512 → EReal) (j : Fin 512) (y : Fin 2) : part x r w₁ w₂ j y + part x r w₁ w₂ j (1 - y) = Moe.moe x r w₁ w₂ j := by
  have h : part x r w₁ w₂ j 0 + part x r w₁ w₂ j 1 = Moe.moe x r w₁ w₂ j := (add_assoc _ _ _).symm
  obtain h' | h' : y = 0 ∨ y = 1 := by omega
  · subst h'; exact h
  · subst h'; exact (add_comm _ _).trans h

/-! ## The result -/

theorem oA_apply (hm : Laid m x r w₁ w₂) (c : Dev nD) (t : Fin 128) (j : Fin 512) :
    oA m c (ix2 t j) = Moe.moe (x (row (yc c) ⟨t.val, by omega⟩)) r w₁ w₂ j := by
  rw [← parts _ _ _ _ _ (yc c), ← own_apply hm, ← pA_apply hm]
  unfold oA k0_pay22 k0_pay21
  generalize k0_pay20 (wOwn m c) (w1a m c) (w1b m c) (w2a m c) (w2b m c) (xS m c) (k0_pay19 (wOwn m c)) = o
  pointwise

theorem oB_apply (hm : Laid m x r w₁ w₂) (c : Dev nD) (t : Fin 128) (j : Fin 512) :
    oB m c (ix2 t j) = Moe.moe (x (row (yc c) ⟨128 + t.val, by omega⟩)) r w₁ w₂ j := by
  rw [← parts _ _ _ _ _ (yc c), ← own_apply hm, ← pB_apply hm]
  unfold oB k0_pay23
  generalize k0_pay20 (wOwn m c) (w1a m c) (w1b m c) (w2a m c) (w2b m c) (xS m c) (k0_pay19 (wOwn m c)) = o
  pointwise

end Cert.MoeRun

end
-- ==== Proof.Result.lean ====
/-
  What the run leaves in the result array. The kernel's windows are whole
  arrays, so the array read at the start and the array written at the end are read without a change of index. With the
  arguments cut from four whole arrays, each device's result is its block of the mixture's value on those arrays.
-/
module

public import proofs.«01_k».proof.Proof.Run
public import proofs.«01_k».proof.Proof.KernelValue

@[expose] public section

set_option maxRecDepth 16384

noncomputable section

namespace Cert.MoeRun

open Cert.KernelIdeal Cert.KernelIdeal.Gen
open Idealize.ShloMosaic
open Idealize.ShloMosaic.TcCoe
open Idealize.SL.Sem
open Idealize.ShloMosaic.Pipeline (Dat Cfg Window)

/-! ## The windows are whole arrays -/

section Windows

variable {F : FTy → Type} [FloatOps F]

theorem in0_emb (t : Fin grid0.N) (i : S256x512.Idx) : (win0_0.blk t).view.emb i = i :=
  funext fun a => Fin.ext (win0_0.rect_emb_val_of_index_zero t a rfl i)
theorem in1_emb (t : Fin grid0.N) (i : S512x2.Idx) : (win0_1.blk t).view.emb i = i :=
  funext fun a => Fin.ext (win0_1.rect_emb_val_of_index_zero t a rfl i)
theorem out_emb (t : Fin grid0.N) (i : S256x512.Idx) : (win0_2.blk t).view.emb i = i :=
  funext fun a => Fin.ext (win0_2.rect_emb_val_of_index_zero t a rfl i)

variable (m : (ℓ : Loc nD τ sig) → Buf (Elt F) ℓ)

theorem X_eq (c : Dev nD) (i : S256x512.Idx) : X m c i = m ((c : Thread nD τ).loc main_arg0) i :=
  congrArg (m ((c : Thread nD τ).loc main_arg0)) (in0_emb _ i)
theorem R_eq (c : Dev nD) (i : S512x2.Idx) : R m c i = m ((c : Thread nD τ).loc main_arg1) i :=
  congrArg (m ((c : Thread nD τ).loc main_arg1)) (in1_emb _ i)

/-- The result array ends holding the body's result. -/
theorem final_out (c : Dev nD) : finalA m c (2 : Fin 3) = outAt m c :=
  (dats m 0 c).arrAt_eq_of_cover (2 : Fin 3) (outAt m c)
    (fun t _ => funext fun i => (congrArg (outAt m c) (out_emb t i)).symm)
    (fun i => ⟨t0_0, rfl, by
      have h := ((win0_2.blk t0_0).view).emb_mem_set i
      rw [out_emb] at h
      exact h⟩)

end Windows

/-! ## The result of a device -/

section Value

variable {m : (ℓ : Loc nD τ sig) → Buf (Elt Ideal) ℓ} {x : Fin 512 → Fin 512 → EReal} {r : Fin 512 → Fin 4 → EReal}
  {w₁ : Fin 4 → Fin 512 → Fin 1024 → EReal} {w₂ : Fin 4 → Fin 1024 → Fin 512 → EReal}

theorem outAt_apply (hm : Laid m x r w₁ w₂) (c : Dev nD) (t : Fin 256) (j : Fin 512) :
    outAt m c (ix2 t j) = Moe.moe (x (row (yc c) t)) r w₁ w₂ j := by
  by_cases h : t.val < 128
  · have h1 := congrFun (glue_up (X m c) (oA m c) (oB m c)) (ix2 ⟨t.val, h⟩ j)
    rw [upv_apply (e := .f32), oA_apply hm] at h1
    exact h1
  · have h1 := congrFun (glue_dn (X m c) (oA m c) (oB m c)) (ix2 ⟨t.val - 128, by omega⟩ j)
    rw [dnv_apply (e := .f32), oB_apply hm] at h1
    have ht : (⟨128 + (t.val - 128), by omega⟩ : Fin 256) = t := Fin.ext (by show 128 + (t.val - 128) = _; omega)
    simp only [ht] at h1
    exact h1

end Value

/-! ## The devices' blocks of the whole arrays -/

section Blocks

variable {α : Type}

/-- The block coordinate of an axis cut along the second mesh axis is the device's place in its pair. -/
theorem meshLin_y (c : Dev nD) : Layout.meshLin [2, 2, 2] c.val [1] = (yc c).val := by revert c; decide

/-- A block of rows, of columns, of the members of a stack of matrices. -/
theorem rows_apply (c : Dev nD) (v : (⟨2, ![512, 512]⟩ : Shape).Idx → α) (t : Fin 256) (k : Fin 512) :
    Layout.blockN ⟨2, ![256, 512]⟩ ⟨2, ![512, 512]⟩ (Layout.meshBlock [2, 2, 2] ![[1], []] c) v (by decide) (ix2 t k) = v (ix2 (row (yc c) t) k) := by
  refine congrArg v (funext fun a => Fin.ext ?_)
  match a with
  | ⟨0, _⟩ => exact congrArg (· * 256 + t.val) (meshLin_y c)
  | ⟨1, _⟩ => exact (congrArg (· + k.val) (Nat.zero_mul 512)).trans (Nat.zero_add _)
theorem cols_apply (c : Dev nD) (v : (⟨2, ![512, 4]⟩ : Shape).Idx → α) (k : Fin 512) (e : Fin 2) :
    Layout.blockN ⟨2, ![512, 2]⟩ ⟨2, ![512, 4]⟩ (Layout.meshBlock [2, 2, 2] ![[], [1]] c) v (by decide) (ix2 k e) = v (ix2 k (mem (yc c) e)) := by
  refine congrArg v (funext fun a => Fin.ext ?_)
  match a with
  | ⟨0, _⟩ => exact (congrArg (· + k.val) (Nat.zero_mul 512)).trans (Nat.zero_add _)
  | ⟨1, _⟩ => exact congrArg (· * 2 + e.val) (meshLin_y c)
theorem members_apply {p q : Nat} (c : Dev nD) (v : (⟨3, ![4, p, q]⟩ : Shape).Idx → α)
    (h : Layout.TilesN ⟨3, ![2, p, q]⟩ ⟨3, ![4, p, q]⟩ (fun b => Layout.cutSize [2, 2, 2] ((![[1], [], []] : Fin 3 → List Nat) b)))
    (e : Fin 2) (i : Fin p) (j : Fin q) :
    Layout.blockN ⟨3, ![2, p, q]⟩ ⟨3, ![4, p, q]⟩ (Layout.meshBlock [2, 2, 2] ![[1], [], []] c) v h (ix3 e i j) = v (ix3 (mem (yc c) e) i j) := by
  refine congrArg v (funext fun a => Fin.ext ?_)
  match a with
  | ⟨0, _⟩ => exact congrArg (· * 2 + e.val) (meshLin_y c)
  | ⟨1, _⟩ => exact (congrArg (· + i.val) (Nat.zero_mul p)).trans (Nat.zero_add _)
  | ⟨2, _⟩ => exact (congrArg (· + j.val) (Nat.zero_mul q)).trans (Nat.zero_add _)

end Blocks

/-! ## A device's result as a block -/

variable (m : (ℓ : Loc nD τ sig) → Buf (Elt Ideal) ℓ)
  (a0 : (⟨2, ![512, 512]⟩ : Shape).Idx → EReal) (a1 : (⟨2, ![512, 4]⟩ : Shape).Idx → EReal)
  (a2 : (⟨3, ![4, 512, 1024]⟩ : Shape).Idx → EReal) (a3 : (⟨3, ![4, 1024, 512]⟩ : Shape).Idx → EReal)

/-- Every device's arguments are its blocks of four whole arrays. -/
def Cut : Prop := ∀ c : Dev nD,
  m ((c.tc : Thread nD τ).loc main_arg0) = Layout.blockN ⟨2, ![256, 512]⟩ ⟨2, ![512, 512]⟩ (Layout.meshBlock [2, 2, 2] ![[1], []] c) a0
    ∧ m ((c.tc : Thread nD τ).loc main_arg1) = Layout.blockN ⟨2, ![512, 2]⟩ ⟨2, ![512, 4]⟩ (Layout.meshBlock [2, 2, 2] ![[], [1]] c) a1
    ∧ m ((c.tc : Thread nD τ).loc main_arg2) = Layout.blockN ⟨3, ![2, 512, 1024]⟩ ⟨3, ![4, 512, 1024]⟩ (Layout.meshBlock [2, 2, 2] ![[1], [], []] c) a2
    ∧ m ((c.tc : Thread nD τ).loc main_arg3) = Layout.blockN ⟨3, ![2, 1024, 512]⟩ ⟨3, ![4, 1024, 512]⟩ (Layout.meshBlock [2, 2, 2] ![[1], [], []] c) a3

/-- The mixture's value on whole arrays: a row for every token. -/
def mixture (i : (⟨2, ![512, 512]⟩ : Shape).Idx) : EReal :=
  Moe.moe (fun k => a0 (ix2 (i 0 : Fin 512) k)) (fun k e => a1 (ix2 k e)) (fun e k h => a2 (ix3 e k h)) (fun e h j => a3 (ix3 e h j)) (i 1)

variable {m a0 a1 a2 a3}

theorem laid (h : Cut m a0 a1 a2 a3) :
    Laid m (fun t k => a0 (ix2 t k)) (fun k e => a1 (ix2 k e)) (fun e k i => a2 (ix3 e k i)) (fun e i j => a3 (ix3 e i j)) where
  tokens c t k := (X_eq m c _).trans ((congrFun (h c).1 _).trans (rows_apply c _ t k))
  router c k e := (R_eq m c _).trans ((congrFun (h c).2.1 _).trans (cols_apply c _ k e))
  first c e k i := (congrFun (h c).2.2.1 _).trans (members_apply c _ _ e k i)
  second c e i j := (congrFun (h c).2.2.2 _).trans (members_apply c _ _ e i j)

/-- A device's result is its block of the mixture's value. -/
theorem out_block (h : Cut m a0 a1 a2 a3) (c : Dev nD) :
    outAt m c = Layout.blockN ⟨2, ![256, 512]⟩ ⟨2, ![512, 512]⟩ (Layout.meshBlock [2, 2, 2] ![[1], []] c) (mixture a0 a1 a2 a3) := by
  funext i
  rw [show i = ix2 (i 0) (i 1) from funext fun a => by match a with | ⟨0, _⟩ => rfl | ⟨1, _⟩ => rfl]
  exact (outAt_apply (laid h) c (i 0) (i 1)).trans (rows_apply c (mixture a0 a1 a2 a3) (i 0) (i 1)).symm

end Cert.MoeRun

end
-- ==== Proof.RefValue.lean ====
/-
  The reference's result read at an index: `Cert.Moe.moe` of the token's row and of the four experts' weights.
-/
module

public import proofs.«01_k».proof.Proof.Spec
public import proofs.«01_k».proof.Proof.Gen.ReferenceIdeal.Run

@[expose] public section

set_option maxRecDepth 16384

noncomputable section

namespace Cert.MoeRef

open Cert.ReferenceIdeal
open Idealize.ShloMosaic

variable (m : (ℓ : Loc nD τ sig) → Buf (Elt Ideal) ℓ)

/-- The reference's arguments, read at an index. -/
def x (t k : Fin 512) : EReal := m ((Dev.tc (0 : Dev nD) : Thread nD τ).loc main_arg0) (ix2 t k)
def r (k : Fin 512) (e : Fin 4) : EReal := m ((Dev.tc (0 : Dev nD) : Thread nD τ).loc main_arg1) (ix2 k e)
def w₁ (e : Fin 4) (k : Fin 512) (h : Fin 1024) : EReal := m ((Dev.tc (0 : Dev nD) : Thread nD τ).loc main_arg2) (ix3 e k h)
def w₂ (e : Fin 4) (h : Fin 1024) (j : Fin 512) : EReal := m ((Dev.tc (0 : Dev nD) : Thread nD τ).loc main_arg3) (ix3 e h j)

theorem res_apply (t j : Fin 512) : Value.res_out0 m 0 (ix2 t j) = Moe.moe (x m t) (r m) (w₁ m) (w₂ m) j := by
  unfold Value.res_out0 Value.res_main_v66
  pointwise
  simp only [id_eq]
  pointwise
  unfold Moe.moe Moe.share Moe.weight Moe.kept Moe.top Moe.rest Moe.expert Moe.gate
  unfold Moe.top Moe.least x r w₁ w₂
  rfl

end Cert.MoeRef

end
-- ==== Proof.Ranked.lean ====
/-
  Tokens whose two best gates stand apart: listed by falling gate, the experts of such a token are the best one, the
  second and two with lower gates. Keeping the gates no smaller than the second largest value keeps those two experts,
  so the token's result is the two experts' outputs, weighted by a softmax over their gates alone.
-/
module

public import proofs.«01_k».proof.Proof.Spec
public import Idealize.ShloMosaic.Lib.SortFacts

@[expose] public section

noncomputable section

namespace Cert.Moe

open Idealize.ShloMosaic

/-- A maximum starts from below everything. -/
theorem least_eq : least = ⊥ := by simp [least, Ideal.ofBits, Ideal.ieee]

/-! ## A sort's comparator -/

/-- No extended real differs from itself. -/
theorem differs_self (z : EReal) : FloatOps.cmpf (F := Ideal) (φ := .f32) .une z z = 0#1 := by
  show Ideal.cmp .une z z = 0#1
  simp [Ideal.cmp]

/-- Putting zero in the place of zero changes nothing. -/
theorem zero_kept (z : EReal) : Scalar.select (FloatOps.cmpf (F := Ideal) (φ := .f32) .oeq z (FloatOps.ofBits .f32 0x00000000#32))
    (FloatOps.ofBits (F := Ideal) .f32 0x00000000#32) z = z := by
  show Scalar.select (Ideal.cmp .oeq z (Ideal.ofBits .f32 0#32)) (Ideal.ofBits .f32 0#32) z = z
  rw [Ideal.ofBits_zero_f32]
  by_cases h : z = 0
  · simp [h, Scalar.select]
  · simp [Ideal.cmp, h, Scalar.select]

/-! ## The order of the gates -/

/-- The experts by falling gate, equal gates in the experts' order. -/
def order (g : Fin 4 → EReal) : Fin 4 → Fin 4 := sortedFrom fun k k' => decide (-g k < -g k')

/-- No expert has two places. -/
theorem order_injective (g : Fin 4 → EReal) : Function.Injective (order g) := sortedFrom_injective _

/-- The gates fall along the order. -/
theorem order_falls (g : Fin 4 → EReal) {i j : Fin 4} (h : i < j) : g (order g j) ≤ g (order g i) := by
  have h := sortedFrom_noInversion (fun k k' => decide (-g k < -g k')) (fun k k' => decide (-g k < -g k'))
    (fun a b hab => by simp only [decide_eq_true_eq, decide_eq_false_iff_not] at hab ⊢; exact not_lt_of_gt hab)
    (fun a b hab => hab)
    (fun a b c hab hbc => by simp only [decide_eq_false_iff_not, not_lt] at hab hbc ⊢; exact hbc.trans hab) i j h
  simp only [decide_eq_false_iff_not, not_lt, EReal.neg_le_neg_iff] at h
  exact h

/-- The two best gates differ from each other and from the rest, and the best is below infinity. -/
structure Lead (g : Fin 4 → EReal) : Prop where
  finite : g (order g 0) < ⊤
  first : g (order g 1) < g (order g 0)
  second : g (order g 2) < g (order g 1)

variable {g : Fin 4 → EReal}

/-- Every expert has its place in the order. -/
theorem exists_order (g : Fin 4 → EReal) (e : Fin 4) : ∃ i, order g i = e := sortedFrom_surjective _ e

/-- The gate in the first place is the largest. -/
theorem Lead.le_first (h : Lead g) (e : Fin 4) : g e ≤ g (order g 0) := by
  obtain ⟨i, rfl⟩ := exists_order g e
  rcases eq_or_lt_of_le (Fin.zero_le i) with rfl | hi
  · exact le_rfl
  · exact order_falls g hi

/-- Past the first two places the gates are lower than the second. -/
theorem Lead.lt_second (h : Lead g) {i : Fin 4} (hi : 1 < i) : g (order g i) < g (order g 1) := by
  rcases eq_or_lt_of_le (show (2 : Fin 4) ≤ i by omega) with rfl | hi
  · exact h.second
  · exact (order_falls g hi).trans_lt h.second

/-- The largest gate, and the largest of the rest. -/
theorem Lead.top_eq (h : Lead g) : top g = g (order g 0) :=
  le_antisymm ((Finset.fold_max_le _).2 ⟨by rw [least_eq]; exact bot_le, fun e _ => h.le_first e⟩) (le_top g _)

theorem Lead.top_rest_eq (h : Lead g) : top (rest g) = g (order g 1) := by
  have hone : rest g (order g 1) = g (order g 1) := by unfold rest; rw [h.top_eq, if_pos h.first]
  refine le_antisymm ((Finset.fold_max_le _).2 ⟨by rw [least_eq]; exact bot_le, fun e _ => ?_⟩) (hone ▸ le_top (rest g) _)
  obtain ⟨i, rfl⟩ := exists_order g e
  unfold rest
  rw [h.top_eq]
  split
  · next hlt =>
    rcases eq_or_lt_of_le (Fin.zero_le i) with rfl | hi
    · exact absurd hlt (lt_irrefl _)
    · rcases eq_or_lt_of_le (show (1 : Fin 4) ≤ i by omega) with rfl | hi
      · exact le_rfl
      · exact order_falls g hi
  · rw [least_eq]; exact bot_le

/-- What the expert in the first or the second place contributes before the division. -/
theorem Lead.kept_best (h : Lead g) {i : Fin 4} (hi : i ≤ 1) :
    kept g (order g i) = Ideal.exp (g (order g i) - g (order g 0)) := by
  unfold kept
  rw [h.top_rest_eq, h.top_eq, if_pos]
  rcases eq_or_lt_of_le hi with rfl | hi
  · exact le_rfl
  · exact order_falls g hi

/-- What the others contribute. -/
theorem Lead.kept_low (h : Lead g) {i : Fin 4} (hi : 1 < i) : kept g (order g i) = 0 := by
  unfold kept
  rw [h.top_rest_eq, if_neg (not_le.2 (h.lt_second hi))]

/-- A sum over the experts is a sum over the places. -/
theorem sum_order {M : Type} [AddCommMonoid M] (g : Fin 4 → EReal) (f : Fin 4 → M) : ∑ e, f e = ∑ i, f (order g i) :=
  (Equiv.sum_comp (Equiv.ofBijective (order g) ⟨order_injective g, exists_order g⟩) f).symm

/-- The divisor: the two best gates' exponentials. -/
def scale (g : Fin 4 → EReal) : EReal :=
  Ideal.exp (g (order g 0) - g (order g 0)) + Ideal.exp (g (order g 1) - g (order g 0))

/-- What is kept sums to the divisor. -/
theorem Lead.sum_kept (h : Lead g) : ∑ e, kept g e = scale g := by
  rw [sum_order g, Fin.sum_univ_four, h.kept_best (by decide), h.kept_best (by decide), h.kept_low (by decide),
    h.kept_low (by decide), add_zero, add_zero]
  rfl

/-- An exponential is not negative. -/
theorem exp_nonneg (x : EReal) : 0 ≤ Ideal.exp x := by
  induction x with
  | bot => exact le_rfl
  | top => exact _root_.le_top
  | coe r => exact EReal.coe_nonneg.2 (Real.exp_pos r).le

/-- The best gate's own exponential is one, so the divisor is not zero. -/
theorem Lead.scale_ne_zero (h : Lead g) : scale g ≠ 0 := by
  have hself : g (order g 0) - g (order g 0) = 0 :=
    EReal.sub_self h.finite.ne (lt_of_le_of_lt bot_le h.first).ne'
  have hone : Ideal.exp 0 = 1 := by
    show ((Real.exp 0 : ℝ) : EReal) = 1
    rw [Real.exp_zero]; rfl
  unfold scale
  rw [hself, hone]
  exact (lt_of_lt_of_le zero_lt_one (le_add_of_nonneg_right (exp_nonneg _))).ne'

/-- The weight of the expert in place `i`, by the softmax over the two best. -/
def best (g : Fin 4 → EReal) (i : Fin 4) : EReal := Ideal.div (Ideal.exp (g (order g i) - g (order g 0))) (scale g)

/-- The weights of the two best and of the others. -/
theorem Lead.weight_best (h : Lead g) {i : Fin 4} (hi : i ≤ 1) : weight g (order g i) = best g i := by
  unfold weight best
  rw [h.sum_kept, h.kept_best hi]

theorem Lead.weight_low (h : Lead g) {i : Fin 4} (hi : 1 < i) : weight g (order g i) = 0 := by
  unfold weight Ideal.div
  rw [h.sum_kept, h.kept_low hi, if_neg h.scale_ne_zero, zero_mul]

/-- Expert `e`'s part of the result through place `i`: its weighted output if it has that place. -/
def placed (g : Fin 4 → EReal) (y : Fin 4 → EReal) (i e : Fin 4) : EReal := if order g i = e then y e * best g i else 0

/-- The weighted outputs of all experts are those of the two best, each found by going through the experts. -/
theorem Lead.sum_placed (h : Lead g) (y : Fin 4 → EReal) :
    ∑ e, y e * weight g e = (∑ e, placed g y 0 e) + ∑ e, placed g y 1 e := by
  rw [sum_order g, Fin.sum_univ_four, h.weight_best (by decide), h.weight_best (by decide), h.weight_low (by decide),
    h.weight_low (by decide), mul_zero, mul_zero, add_zero, add_zero]
  unfold placed
  rw [Finset.sum_ite_eq, Finset.sum_ite_eq, if_pos (Finset.mem_univ _), if_pos (Finset.mem_univ _)]

end Cert.Moe

end
-- ==== Proof.BestValue.lean ====
/-
  The reference by sorting, read at an index: it sorts a token's four negated gates together with the experts' numbers,
  takes the first two numbers, gathers their gates, takes a softmax over the two and adds up, going through the four
  experts for each of the two places, the weighted output of the expert whose number stands there. For a token whose two
  best gates stand apart this is `Cert.Moe.moe`.
-/
module

public import proofs.«01_k».proof.Proof.Ranked
public import proofs.«01_k».proof.Proof.Gen.TwoBestIdeal.Run

@[expose] public section

set_option maxRecDepth 16384

noncomputable section

namespace Cert.MoeBest

open Cert.TwoBestIdeal Cert.TwoBestIdeal.Gen
open Idealize.ShloMosaic Idealize.SL.Sem Idealize.ShloMosaic.StableHlo

variable (V : Valuation τ sig (Elt Ideal))

/-- The arguments, read at an index. -/
def x (t k : Fin 512) : EReal := V (Proc.devRef .tc main_arg0) (ix2 t k)
def r (k : Fin 512) (e : Fin 4) : EReal := V (Proc.devRef .tc main_arg1) (ix2 k e)
def w₁ (e : Fin 4) (k : Fin 512) (h : Fin 1024) : EReal := V (Proc.devRef .tc main_arg2) (ix3 e k h)
def w₂ (e : Fin 4) (h : Fin 1024) (j : Fin 512) : EReal := V (Proc.devRef .tc main_arg3) (ix3 e h j)

/-- Row `t`'s gates. -/
abbrev gates (t : Fin 512) : Fin 4 → EReal := Moe.gate (x V t) (r V)

/-- The first product holds the gates. -/
theorem gates_apply (t : Fin 512) (e : Fin 4) : Value.res_main_v0 V (ix2 t e) = gates V t e := by
  unfold Value.res_main_v0 gates Moe.gate x r
  pointwise

/-- The sort's keys are the negated gates. -/
theorem keys_apply (t : Fin 512) (e : Fin 4) : Value.res_main_v1 V (ix2 t e) = -gates V t e := by
  unfold Value.res_main_v1
  pointwise
  rw [gates_apply]

/-- The sort's comparator looks at the keys alone. -/
theorem before_eq (a b : EReal × BitVec 32) :
    comparator_f32_i32_d1 (F := Ideal) a b = BitVec.ofBool (decide (a.1 < b.1)) := by
  unfold comparator_f32_i32_d1
  simp only [Moe.differs_self, Moe.zero_kept]
  rfl

/-- Position `k` of row `t`. -/
theorem along_eq (t : Fin 512) (i : Fin 4) (h : 1 < S512x4.rank) (k : Fin (S512x4.size ⟨1, h⟩)) :
    (ix2 t i : S512x4.Idx).along ⟨1, h⟩ k = ix2 t (k : Fin 4) := by
  funext a
  match a with
  | ⟨0, _⟩ => rfl
  | ⟨1, _⟩ => rfl

/-- The sorted positions: place `i` of row `t` holds the number of the expert in place `i`. -/
theorem places_apply (t : Fin 512) (i : Fin 4) :
    (Host.sort2 S512x4 1 (comparator_f32_i32_d1 (F := Ideal)) (Value.res_main_v1 V) (Value.res_main_call0_v0 (F := Ideal) V)).2 (ix2 t i)
      = BitVec.ofNat 32 (Moe.order (gates V t) i) := by
  unfold Host.sort2
  rw [dif_pos (by decide)]
  simp only [along_eq, before_eq]
  unfold Value.res_main_call0_v0
  pointwise
  have hb : (fun k k' : Fin 4 => BitVec.ofBool (decide (@LT.lt EReal _ (Value.res_main_v1 V (ix2 t k)) (Value.res_main_v1 V (ix2 t k')))) == 1#1)
      = fun k k' => decide (-gates V t k < -gates V t k') := by
    funext k k'
    rw [keys_apply, keys_apply]
    cases decide (-gates V t k < -gates V t k') <;> rfl
  exact congrArg (fun b => BitVec.ofNat 32 (sortedFrom b i : Fin 4).val) hb

/-- The places taken: the first and the second. -/
abbrev place (i : Fin 2) : Fin 4 := Fin.castLE (by decide) i

/-- The expert in place `i` of row `t`. -/
abbrev chosen (t : Fin 512) (i : Fin 2) : Fin 4 := Moe.order (gates V t) (place i)

/-- The two numbers taken. -/
theorem chosen_apply (t : Fin 512) (i : Fin 2) : Value.res_main_v3 V (ix2 t i) = BitVec.ofNat 32 (chosen V t i) := by
  unfold Value.res_main_v3 chosen
  rw [← places_apply]
  pointwise
  rfl

/-- The index of the gather: no number is negative, so none is shifted. -/
theorem index_apply (t : Fin 512) (i : Fin 2) : Value.res_main_call1_v5 V (ix3 t i 0) = BitVec.ofNat 32 (chosen V t i) := by
  unfold Value.res_main_call1_v5
  pointwise
  rw [chosen_apply]
  generalize chosen V t i = e
  revert e
  decide

/-- Every index into the gates is in their range. -/
theorem in_range (i : S512x2x1.Idx) : IntOp.andi (IntOp.cmpi .sge (Value.res_main_call1_v5 V i) 0#32)
    (IntOp.cmpi .sle (Value.res_main_call1_v5 V i) 3#32) = 1#1 := by
  obtain ⟨t, j, rfl⟩ : ∃ (t : Fin 512) (j : Fin 2), i = ix3 t j 0 := ⟨i 0, i 1, by
    funext a
    match a with
    | ⟨0, _⟩ => rfl
    | ⟨1, _⟩ => rfl
    | ⟨2, _⟩ => exact Subsingleton.elim (α := Fin 1) _ _⟩
  rw [index_apply]
  generalize chosen V t j = e
  revert e
  decide

/-- An expert's number, read off its word and clamped to the experts' range, is itself. -/
theorem clamped (e : Fin 4) : min (BitVec.ofNat 32 e.val).toInt.toNat (4 - 1) = e.val := by
  revert e
  decide

/-- The gather along a row, read at an index. -/
theorem gather_apply (v : S512x4.Idx → EReal) (k : IVec S512x2x1 32) (t : Fin 512) (i : Fin 2) (e : Fin 4)
    (h : k (ix3 t i 0) = BitVec.ofNat 32 e) :
    Host.gather gather_S512x4_S512x2x1_S512x2_n_1_0_0_1_2_11 v k (ix2 t i) = v (ix2 t e) := by
  unfold Host.gather
  congr 1
  funext a
  refine Fin.ext ?_
  show gather_S512x4_S512x2x1_S512x2_n_1_0_0_1_2_11.start (ix2 t i) k a
    + gather_S512x4_S512x2x1_S512x2_n_1_0_0_1_2_11.batchCoord (ix2 t i) a
    + gather_S512x4_S512x2x1_S512x2_n_1_0_0_1_2_11.offCoord (ix2 t i) a = _
  match a with
  | ⟨0, ha⟩ =>
    have hmem : (⟨0, ha⟩ : Fin S512x4.rank) ∈ gather_S512x4_S512x2x1_S512x2_n_1_0_0_1_2_11.operandBatchingDims :=
      List.mem_singleton.2 rfl
    rw [GatherDims.start_batching _ _ _ _ hmem, GatherDims.offCoord_eq_zero _ _ _ fun h => ((GatherDims.mem_sKept _ _).1 h).2 hmem,
      Nat.zero_add, Nat.add_zero]
    unfold GatherDims.batchCoord
    rw [dif_pos hmem]
    rfl
  | ⟨1, ha⟩ =>
    have hcol : (⟨1, ha⟩ : Fin S512x4.rank) ∈ gather_S512x4_S512x2x1_S512x2_n_1_0_0_1_2_11.collapsedSliceDims :=
      List.mem_singleton.2 rfl
    have hmap : (⟨1, ha⟩ : Fin S512x4.rank) ∈ gather_S512x4_S512x2x1_S512x2_n_1_0_0_1_2_11.startIndexMap :=
      List.mem_singleton.2 rfl
    rw [GatherDims.batchCoord_eq_zero _ _ _ (fun h => absurd (congrArg Fin.val (List.mem_singleton.1 h)) Nat.one_ne_zero),
      GatherDims.offCoord_eq_zero _ _ _ fun h => ((GatherDims.mem_sKept _ _).1 h).1 hcol]
    unfold GatherDims.start
    rw [dif_pos hmap]
    have hat : gather_S512x4_S512x2x1_S512x2_n_1_0_0_1_2_11.siIdx (ix2 t i)
        ⟨List.idxOf ⟨1, ha⟩ gather_S512x4_S512x2x1_S512x2_n_1_0_0_1_2_11.startIndexMap, List.idxOf_lt_length_iff.2 hmap⟩
        = ix3 t i 0 := by
      funext b
      match b with
      | ⟨0, _⟩ => rfl
      | ⟨1, _⟩ => rfl
      | ⟨2, _⟩ => rfl
    rw [hat, h]
    exact clamped e

/-- Values gathered where every index is in range: the padding is never taken. -/
theorem taken_apply (v : FVec Ideal S512x4 .f32) (k : IVec S512x2x1 32) (t : Fin 512) (i : Fin 2)
    (hk : ∀ i, IntOp.andi (IntOp.cmpi .sge (k i) 0#32) (IntOp.cmpi .sle (k i) 3#32) = 1#1) :
    select (Host.reduce IntOp.andi (andi (cmpi .sge k (broadcastInDim S512x2x1 ![] bcast_S_S512x2x1 (constantI S_ 32 0#32)))
        (cmpi .sle k (broadcastInDim S512x2x1 ![0, 1, 2] bcast_S1x1x1_S512x2x1_0_1_2
          (broadcastInDim S1x1x1 ![2] bcast_S1_S1x1x1_2 (constantI S1 32 3#32))))) (constantI S_ 1 1#1)
          reducesTo_S512x2x1_S512x2_d2 h_S_)
      (Host.gather gather_S512x4_S512x2x1_S512x2_n_1_0_0_1_2_11 v k)
      (broadcastInDim S512x2 ![] bcast_S_S512x2 (constant S_ .f32 0x7FC00000#32)) (ix2 t i)
      = Host.gather gather_S512x4_S512x2x1_S512x2_n_1_0_0_1_2_11 v k (ix2 t i) := by
  pointwise
  simp only [hk]
  rw [show Finset.fold IntOp.andi 1#1 (fun _ : Fin 1 => 1#1) Finset.univ = 1#1 from by decide]
  rfl

/-- The two gates gathered. -/
theorem value_apply (t : Fin 512) (i : Fin 2) : Value.res_main_v4 V (ix2 t i) = gates V t (chosen V t i) := by
  unfold Value.res_main_v4
  refine (taken_apply _ _ t i (in_range V)).trans ((gather_apply _ _ t i _ (index_apply V t i)).trans ?_)
  exact gates_apply V t _

/-- Two values' exponentials, taken after the larger is subtracted. -/
theorem exp_apply (v : FVec Ideal S512x2 .f32) (t : Fin 512) (i : Fin 2) :
    Host.exp (subf v (broadcastInDim S512x2 ![0, 1] bcast_S512x1_S512x2_0_1 (broadcastInDim S512x1 ![0] bcast_S512_S512x1_0
      (Host.reduce FloatOps.maximumf v (constant S_ .f32 0xFF800000#32) reducesTo_S512x2_S512_d1 h_S_)))) (ix2 t i)
      = Ideal.exp (v (ix2 t i) - Finset.univ.fold max (Ideal.ofBits .f32 0xFF800000#32) fun k : Fin 2 => v (ix2 t k)) := by
  pointwise

/-- The larger of the two values taken is the best gate. -/
theorem largest_apply {t : Fin 512} (h : Moe.Lead (gates V t)) :
    (Finset.univ.fold max (Ideal.ofBits .f32 0xFF800000#32) fun i : Fin 2 => gates V t (chosen V t i))
      = gates V t (Moe.order (gates V t) 0) :=
  le_antisymm ((Finset.fold_max_le _).2 ⟨Moe.least_eq.trans_le bot_le, fun i _ => h.le_first _⟩)
    ((Finset.le_fold_max _).2 (Or.inr ⟨0, Finset.mem_univ _, le_rfl⟩))

/-- The softmax over the two. -/
theorem softmax_apply {t : Fin 512} (h : Moe.Lead (gates V t)) (i : Fin 2) :
    Value.res_main_v13 V (ix2 t i) = Moe.best (gates V t) (place i) := by
  have hexp : ∀ i, Value.res_main_v9 V (ix2 t i) = Ideal.exp (gates V t (chosen V t i) - gates V t (Moe.order (gates V t) 0)) := by
    intro i
    unfold Value.res_main_v9
    refine (exp_apply (Value.res_main_v4 V) t i).trans ?_
    rw [← largest_apply V h]
    simp only [value_apply]
  unfold Value.res_main_v13
  pointwise
  simp only [hexp]
  rw [Fin.sum_univ_two]
  rfl

/-- The four experts on a token. -/
theorem expert0_apply (t j : Fin 512) : Value.res_main_v21 V (ix2 t j) = Moe.expert (x V t) (w₁ V 0) (w₂ V 0) j := by
  unfold Value.res_main_v21 Moe.expert x w₁ w₂
  pointwise
theorem expert1_apply (t j : Fin 512) : Value.res_main_v29 V (ix2 t j) = Moe.expert (x V t) (w₁ V 1) (w₂ V 1) j := by
  unfold Value.res_main_v29 Moe.expert x w₁ w₂
  pointwise
theorem expert2_apply (t j : Fin 512) : Value.res_main_v37 V (ix2 t j) = Moe.expert (x V t) (w₁ V 2) (w₂ V 2) j := by
  unfold Value.res_main_v37 Moe.expert x w₁ w₂
  pointwise
theorem expert3_apply (t j : Fin 512) : Value.res_main_v45 V (ix2 t j) = Moe.expert (x V t) (w₁ V 3) (w₂ V 3) j := by
  unfold Value.res_main_v45 Moe.expert x w₁ w₂
  pointwise

/-- A summand of the result: an expert's weighted output if the expert has the place, else zero. -/
theorem part_apply (a e : Fin 4) (n : BitVec 32) (hn : n = BitVec.ofNat 32 e) (y w : EReal) :
    Scalar.select (IntOp.cmpi .eq (BitVec.ofNat 32 a) n) (y * w) 0 = if a = e then y * w else 0 := by
  have h : IntOp.cmpi .eq (BitVec.ofNat 32 a) n = BitVec.ofBool (decide (a = e)) := by
    subst hn
    revert a e
    decide
  rw [h]
  by_cases hae : a = e <;> simp [hae, Scalar.select]

/-- The run of the reference by sorting: where the two best gates stand apart, its result is the mixture's value. -/
theorem run_best (m : (ℓ : Loc nD τ sig) → Buf (Elt Ideal) ℓ) (ρ : Dev nD → PrngReg) :
    ∃ v : S512x512.Idx → EReal,
      θ_run defs (onTc (τ := τ) (main (F := Ideal))) ⟨m, fun _ => 0, ρ⟩ (fun s =>
        s.2.mem (((0 : Dev nD).tc : Thread nD τ).loc main_v110) = v
        ∧ s.2.mem (((0 : Dev nD).tc : Thread nD τ).loc main_arg0) = m (((0 : Dev nD).tc : Thread nD τ).loc main_arg0)
        ∧ s.2.mem (((0 : Dev nD).tc : Thread nD τ).loc main_arg1) = m (((0 : Dev nD).tc : Thread nD τ).loc main_arg1)
        ∧ s.2.mem (((0 : Dev nD).tc : Thread nD τ).loc main_arg2) = m (((0 : Dev nD).tc : Thread nD τ).loc main_arg2)
        ∧ s.2.mem (((0 : Dev nD).tc : Thread nD τ).loc main_arg3) = m (((0 : Dev nD).tc : Thread nD τ).loc main_arg3))
      ∧ ∀ t j : Fin 512, Moe.Lead (gates (launchContents m (0 : Dev nD)) t) →
        v (ix2 t j) = Moe.moe (x (launchContents m (0 : Dev nD)) t) (r (launchContents m (0 : Dev nD)))
          (w₁ (launchContents m (0 : Dev nD))) (w₂ (launchContents m (0 : Dev nD))) j := by
  refine ⟨_, (θ_run defs _ _).mono (fun _ h => h 0) (Value.run (F := Ideal) m ρ), fun t j h => ?_⟩
  generalize launchContents m (0 : Dev nD) = V at h ⊢
  pointwise
  simp only [chosen_apply, softmax_apply V h, expert0_apply, expert1_apply, expert2_apply, expert3_apply, id_eq]
  pointwise
  simp only [part_apply _ 0 0#32 rfl, part_apply _ 1 1#32 rfl, part_apply _ 2 2#32 rfl, part_apply _ 3 3#32 rfl]
  have hsum := h.sum_placed fun e => Moe.expert (x V t) (w₁ V e) (w₂ V e) j
  simp only [Fin.sum_univ_four] at hsum
  unfold Moe.moe Moe.share
  rw [hsum]
  simp only [Moe.placed, add_assoc]
  rfl

end Cert.MoeBest

end
-- ==== Proof.LeadMask.lean ====
/-
  The mask of the claim on the reference by sorting: where it is set, the token's two best gates stand apart.
-/
module

public import proofs.«01_k».proof.Proof.Ranked
public import proofs.«01_k».proof.Proof.Gen.On_two_lead

@[expose] public section

set_option maxRecDepth 16384

noncomputable section

namespace Cert.MoeMask

open Cert.On_two_lead Cert.On_two_lead.Gen
open Idealize.ShloMosaic

/-- The sort's comparator is the order of the keys. -/
theorem before_eq (a b : EReal) : comparator_f32_d1 (F := Ideal) a b = BitVec.ofBool (decide (a < b)) := by
  unfold comparator_f32_d1
  simp only [Moe.differs_self, Moe.zero_kept]
  rfl

/-- Position `k` of row `t`. -/
theorem along_eq (t : Fin 512) (i : Fin 4) (h : 1 < S512x4.rank) (k : Fin (S512x4.size ⟨1, h⟩)) :
    (ix2 t i : S512x4.Idx).along ⟨1, h⟩ k = ix2 t (k : Fin 4) := by
  funext a
  match a with
  | ⟨0, _⟩ => rfl
  | ⟨1, _⟩ => rfl

/-- Rows sorted by rising key, for keys that are negated gates. -/
theorem sorted_apply (v : FVec Ideal S512x4 .f32) (g : Fin 4 → EReal) (t : Fin 512) (i : Fin 4)
    (hv : ∀ e : Fin 4, v (ix2 t e) = -g e) : fn_sort (F := Ideal) v (ix2 t i) = -g (Moe.order g i) := by
  unfold fn_sort Host.sort
  dsimp only
  rw [dif_pos (by decide)]
  simp only [along_eq, before_eq]
  have hb : (fun k k' : Fin 4 => BitVec.ofBool (decide (@LT.lt EReal _ (v (ix2 t k)) (v (ix2 t k')))) == 1#1) = fun k k' => decide (-g k < -g k') := by
    funext k k'
    rw [hv, hv]
    cases decide (-g k < -g k') <;> rfl
  exact (congrArg (fun b => v (ix2 t (sortedFrom b i : Fin 4))) hb).trans (hv _)

/-- Infinity, as the mask writes it. -/
theorem infinity_eq : Ideal.ofBits .f32 0x7F800000#32 = ⊤ := by simp [Ideal.ofBits, Ideal.ieee]

/-- Three tests set together. -/
theorem tests_set {p q s : Prop} [Decidable p] [Decidable q] [Decidable s]
    (h : IntOp.andi (IntOp.andi (BitVec.ofBool (decide p)) (BitVec.ofBool (decide q))) (BitVec.ofBool (decide s)) = 1#1) : p ∧ q ∧ s := by
  by_cases hp : p <;> by_cases hq : q <;> by_cases hs : s <;> simp [hp, hq, hs, IntOp.andi] at h ⊢

/-- Where the mask is set, the token's two best gates stand apart. -/
theorem lead (a0 : FVec Ideal S512x512 .f32) (a1 : FVec Ideal S512x4 .f32) (a2 : FVec Ideal S4x512x1024 .f32)
    (a3 : FVec Ideal S4x1024x512 .f32) (t j : Fin 512) (h : fn (F := Ideal) a0 a1 a2 a3 (ix2 t j) = 1#1) :
    Moe.Lead (Moe.gate (fun k => a0 (ix2 t k)) fun k e => a1 (ix2 k e)) := by
  have hs := fun i : Fin 4 => sorted_apply
    (Host.negf (Host.dotGeneral dot_S512x512_S512x4_S512x4_1_0_0_1_n_n (some .fp32) a0 a1))
    (Moe.gate (fun k => a0 (ix2 t k)) fun k e => a1 (ix2 k e)) t i (fun e => by
      unfold Moe.gate
      pointwise)
  revert h
  dsimp only [fn]
  generalize Host.negf (Host.dotGeneral dot_S512x512_S512x4_S512x4_1_0_0_1_n_n (some .fp32) a0 a1) = v at hs ⊢
  pointwise
  simp only [hs, neg_neg, infinity_eq]
  intro h
  obtain ⟨hf, h1, h2⟩ := tests_set h
  exact ⟨hf, h1, h2⟩

end Cert.MoeMask

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.RefValue
public import proofs.«01_k».proof.Proof.Gen.TwoBestIdeal
public import proofs.«01_k».proof.Proof.Gen.TwoBestIdeal.Run
public import proofs.«01_k».proof.Proof.Gen.On_two_lead
public import proofs.«01_k».proof.Proof.BestValue
public import proofs.«01_k».proof.Proof.LeadMask
public import Idealize.ShloMosaic.Adequacy
public import Idealize.ShloMosaic.Init

@[expose] public section

set_option maxRecDepth 20000

noncomputable section

namespace Cert.Proof

open Idealize.ShloMosaic Idealize.SL.Sem Cert.Kernel

/-- The kernel's frame over the ideal reals. -/
theorem frame_ideal : Cert.quiescent_KernelIdeal := fun m ρ _ => Cert.MoeRun.run_frame (F := Ideal) m ρ

/-- Both programs name the same body. -/
theorem bodies_eq : Cert.Kernel.defs₀ (F := Bits) = Cert.KernelIdeal.defs₀ (F := Bits) := by
  unfold Cert.Kernel.defs₀ Cert.KernelIdeal.defs₀
  refine congrArg _ (funext fun l => funext fun a => ?_)
  match l, a with
  | ⟨0, _⟩, (t, s) => rfl

/-- So they run under the same definitions. -/
theorem defs_eq : Cert.Kernel.defs (F := Bits) = Cert.KernelIdeal.defs (F := Bits) :=
  congrArg (Pipeline.defs Cert.Kernel.pcfgs) bodies_eq

/-- The kernel's frame bit by bit: the same run. -/
theorem frame_kernel : Cert.quiescent_Kernel := fun m ρ _ => by
  rw [defs_eq]
  exact Cert.MoeRun.run_frame (F := Bits) m ρ

/-- The reference's frame: its run, which writes no argument and declares no semaphore. -/
theorem frame_ref : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The frame of the reference by sorting: the same. -/
theorem frame_best : Cert.quiescent_TwoBestIdeal := fun m ρ _ =>
  (θ_run Cert.TwoBestIdeal.defs _ _).mono (fun r h => ⟨fun c => (h c).2,
      Idealize.ShloMosaic.sem_eq_zero_of_no_sems (by decide) r.2⟩)
    (Cert.TwoBestIdeal.Value.run (F := Ideal) m ρ)

/-- A matrix's index is its row and its column. -/
theorem matrix_index (i : (⟨2, ![512, 512]⟩ : Shape).Idx) : i = ix2 (i 0 : Fin 512) (i 1 : Fin 512) :=
  funext fun a => by match a with | ⟨0, _⟩ => rfl | ⟨1, _⟩ => rfl

/-- The kernel's run on blocks of whole arrays: its result arrays are blocks of the mixture's value. -/
theorem run_blocks {m : (ℓ : Loc Cert.KernelIdeal.nD Cert.KernelIdeal.τ Cert.KernelIdeal.sig) → Buf (Elt Ideal) ℓ} {a0 a1 a2 a3}
    (h : Cert.MoeRun.Cut m a0 a1 a2 a3) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1)
          = Layout.blockN ⟨2, ![256, 512]⟩ ⟨2, ![512, 512]⟩ (Layout.meshBlock [2, 2, 2] ![[1], []] c) (Cert.MoeRun.mixture a0 a1 a2 a3)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun _ hr c =>
    ⟨((hr.1 c).1 2).trans ((Cert.MoeRun.final_out m c).trans (Cert.MoeRun.out_block h c)),
      ((hr.1 c).1 0).trans (Cert.MoeRun.final_x m c), ((hr.1 c).1 1).trans (Cert.MoeRun.final_r m c), (hr.1 c).2.1, (hr.1 c).2.2⟩)
    (Cert.MoeRun.run_main m g)

/-- The kernel and the reference: both compute the mixture's value. -/
theorem algebraic : Cert.algebraic_KernelIdeal_ReferenceIdeal := fun m g m' g' _ h =>
  ⟨Cert.MoeRun.mixture _ _ _ _, run_blocks h g,
    (θ_run Cert.ReferenceIdeal.defs _ _).mono (fun _ hr => ⟨(hr 0).1.trans (funext fun i => by
        rw [matrix_index i]
        exact Cert.MoeRef.res_apply m' _ _), (hr 0).2⟩)
      (Cert.ReferenceIdeal.Value.run (F := Ideal) m' g')⟩

/-- The kernel and the reference by sorting: the latter computes the mixture's value where the mask is set. -/
theorem algebraic_best : Cert.algebraic_KernelIdeal_TwoBestIdeal_on_two_lead := fun m g m' g' _ h => by
  obtain ⟨v, hrun, hv⟩ := Cert.MoeBest.run_best m' g'
  refine ⟨Cert.MoeRun.mixture _ _ _ _,
    (θ_run Cert.KernelIdeal.defs _ _).mono (fun _ hr c => ⟨fun i _ => congrFun (hr c).1 i, (hr c).2⟩) (run_blocks h g),
    (θ_run Cert.TwoBestIdeal.defs _ _).mono (fun _ hr => ⟨fun i hi => ?_, hr.2⟩) hrun⟩
  rw [matrix_index i] at hi ⊢
  exact (congrFun hr.1 _).trans (hv _ _ (Cert.MoeMask.lead _ _ _ _ _ _ hi))

theorem claim : Cert.Claim :=
  ⟨Cert.Kernel.Gen.facts, Cert.KernelIdeal.Gen.facts, Cert.ReferenceIdeal.Gen.facts, Cert.TwoBestIdeal.Gen.facts, Cert.On_two_lead.Gen.facts,
    frame_kernel, frame_ideal, frame_ref, frame_best, trivial, algebraic, algebraic_best⟩

end Cert.Proof

end
